-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_initial_step [hPre_initial_step : Cert.Pre_initial_step.Facts] (m : (ℓ : Loc Cert.KernelIdeal.nD Cert.KernelIdeal.τ Cert.KernelIdeal.sig) → Buf (Elt Ideal) ℓ) : Prop :=
  ∀ c : Dev Cert.KernelIdeal.nD,
    (Cert.Pre_initial_step.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_initial_step [hPre_initial_step : Cert.Pre_initial_step.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_initial_step.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_initial_step [hKernelIdeal : Cert.KernelIdeal.Facts] [hPre_initial_step : Cert.Pre_initial_step.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_initial_step m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_initial_step [hReferenceIdeal : Cert.ReferenceIdeal.Facts] [hPre_initial_step : Cert.Pre_initial_step.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_initial_step m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_initial_step [hKernelIdeal : Cert.KernelIdeal.Facts] [hReferenceIdeal : Cert.ReferenceIdeal.Facts] [hPre_initial_step : Cert.Pre_initial_step.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_initial_step m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2_0)) (v2 : (c : Dev Cert.KernelIdeal.nD) → Buf (Elt Ideal) ((c.tc : Thread Cert.KernelIdeal.nD Cert.KernelIdeal.τ).loc Cert.KernelIdeal.main_v2_1)) (v3 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_v2_1) = v2 c
          ∧ r.2.mem ((c.tc : Thread Cert.KernelIdeal.nD Cert.KernelIdeal.τ).loc Cert.KernelIdeal.main_v3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_v116_3) = v1 c
          ∧ r.2.mem ((c.tc : Thread Cert.ReferenceIdeal.nD Cert.ReferenceIdeal.τ).loc Cert.ReferenceIdeal.main_v116_4) = v2 c
          ∧ r.2.mem ((c.tc : Thread Cert.ReferenceIdeal.nD Cert.ReferenceIdeal.τ).loc Cert.ReferenceIdeal.main_v116_5) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_initial_step : Cert.Pre_initial_step.Facts),
    quiescent_Kernel (hKernel := hKernel)
    ∧ quiescent_KernelIdeal (hKernelIdeal := hKernelIdeal)
    ∧ quiescent_KernelIdeal_pre_initial_step (hKernelIdeal := hKernelIdeal) (hPre_initial_step := hPre_initial_step)
    ∧ quiescent_ReferenceIdeal (hReferenceIdeal := hReferenceIdeal)
    ∧ quiescent_ReferenceIdeal_pre_initial_step (hReferenceIdeal := hReferenceIdeal) (hPre_initial_step := hPre_initial_step)
    ∧ preserves_Kernel_KernelIdeal
    ∧ algebraic_KernelIdeal_ReferenceIdeal_pre_initial_step (hKernelIdeal := hKernelIdeal) (hReferenceIdeal := hReferenceIdeal) (hPre_initial_step := hPre_initial_step)
-- ==== Pre_initial_step.lean ====
abbrev S256x256 : Shape := ⟨2, ![256, 256]⟩
abbrev S2048x256 : Shape := ⟨2, ![2048, 256]⟩
abbrev S2048 : Shape := ⟨1, ![2048]⟩
abbrev S768x256 : Shape := ⟨2, ![768, 256]⟩
abbrev S768 : Shape := ⟨1, ![768]⟩
abbrev S256 : Shape := ⟨1, ![256]⟩
abbrev S1024x256 : Shape := ⟨2, ![1024, 256]⟩
abbrev S1024 : Shape := ⟨1, ![1024]⟩
abbrev S256x1024 : Shape := ⟨2, ![256, 1024]⟩
abbrev S_ : Shape := ⟨0, ![]⟩
abbrev S512x256 : Shape := ⟨2, ![512, 256]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  slices_S768x256_S512x256_0_0 : S768x256.Slices ![0, 0] S512x256
  bcast_S_S512x256 : S_.BroadcastsInDim S512x256 (![] : Fin 0 → Fin S512x256.rank)
  reducesTo_S512x256_S_d0_1 : S512x256.ReducesTo [0, 1] S_
  bcast_S_S768 : S_.BroadcastsInDim S768 (![] : Fin 0 → Fin S768.rank)
  reducesTo_S768_S_d0 : S768.ReducesTo [0] S_
  bcast_S_S256 : S_.BroadcastsInDim S256 (![] : Fin 0 → Fin S256.rank)
  reducesTo_S256_S_d0 : S256.ReducesTo [0] S_
  bcast_S_S1024 : S_.BroadcastsInDim S1024 (![] : Fin 0 → Fin S1024.rank)
  reducesTo_S1024_S_d0 : S1024.ReducesTo [0] S_

variable [Facts]

def fn_part3 {F : FTy → Type} [FloatOps F] (main_v9 : IVec S_ 1) (main_v13 : IVec S_ 1) (main_v16 : IVec S_ 1) (main_v39 : IVec S_ 1) (main_v46 : IVec S_ 1) : IVec S_ 1 :=
  let main_v47 : IVec S_ 1 := andi main_v9 main_v13
  let main_v48 : IVec S_ 1 := andi main_v47 main_v16
  let main_v49 : IVec S_ 1 := andi main_v48 main_v39
  let main_v50 : IVec S_ 1 := andi main_v49 main_v46
  main_v50

def fn_part2 {F : FTy → Type} [FloatOps F] (main_arg12 : FVec F S256 .f32) (main_arg13 : FVec F S256 .f32) (main_arg14 : FVec F S256 .f32) (main_arg15 : FVec F S256 .f32) (main_v9 : IVec S_ 1) (main_v13 : IVec S_ 1) (main_v16 : IVec S_ 1) (main_v27 : IVec S_ 1) (main_v30 : IVec S_ 1) : IVec S_ 1 :=
  let main_v31 : IVec S_ 1 := andi main_v27 main_v30
  let main_cst_15 : FVec F S_ .f32 := constant S_ .f32 0x00000000#32
  let main_v32 : FVec F S256 .f32 := broadcastInDim S256 ![] bcast_S_S256 main_cst_15
  let main_v33 : IVec S256 1 := cmpf .oeq main_arg13 main_v32
  let main_c_16 : IVec S_ 1 := constantI S_ 1 1#1
  let main_v34 : IVec S_ 1 := (fun x v => Host.reduce IntOp.andi x v reducesTo_S256_S_d0 h_S_) main_v33 main_c_16
  let main_v35 : IVec S_ 1 := andi main_v31 main_v34
  let main_cst_17 : FVec F S_ .f32 := constant S_ .f32 0x00000000#32
  let main_v36 : FVec F S256 .f32 := broadcastInDim S256 ![] bcast_S_S256 main_cst_17
  let main_v37 : IVec S256 1 := cmpf .oeq main_arg15 main_v36
  let main_c_18 : IVec S_ 1 := constantI S_ 1 1#1
  let main_v38 : IVec S_ 1 := (fun x v => Host.reduce IntOp.andi x v reducesTo_S256_S_d0 h_S_) main_v37 main_c_18
  let main_v39 : IVec S_ 1 := andi main_v35 main_v38
  let main_cst_19 : FVec F S_ .f32 := constant S_ .f32 0x3F800000#32
  let main_v40 : FVec F S256 .f32 := broadcastInDim S256 ![] bcast_S_S256 main_cst_19
  let main_v41 : IVec S256 1 := cmpf .oeq main_arg12 main_v40
  let main_c_20 : IVec S_ 1 := constantI S_ 1 1#1
  let main_v42 : IVec S_ 1 := (fun x v => Host.reduce IntOp.andi x v reducesTo_S256_S_d0 h_S_) main_v41 main_c_20
  let main_cst_21 : FVec F S_ .f32 := constant S_ .f32 0x3F800000#32
  let main_v43 : FVec F S256 .f32 := broadcastInDim S256 ![] bcast_S_S256 main_cst_21
  let main_v44 : IVec S256 1 := cmpf .oeq main_arg14 main_v43
  let main_c_22 : IVec S_ 1 := constantI S_ 1 1#1
  let main_v45 : IVec S_ 1 := (fun x v => Host.reduce IntOp.andi x v reducesTo_S256_S_d0 h_S_) main_v44 main_c_22
  let main_v46 : IVec S_ 1 := andi main_v42 main_v45
  fn_part3 (F := F) main_v9 main_v13 main_v16 main_v39 main_v46

def fn_part1 {F : FTy → Type} [FloatOps F] (main_arg5 : FVec F S768 .f32) (main_arg7 : FVec F S256 .f32) (main_arg9 : FVec F S1024 .f32) (main_arg11 : FVec F S256 .f32) (main_arg12 : FVec F S256 .f32) (main_arg13 : FVec F S256 .f32) (main_arg14 : FVec F S256 .f32) (main_arg15 : FVec F S256 .f32) (main_v9 : IVec S_ 1) (main_v13 : IVec S_ 1) (main_v15 : IVec S2048x256 1) : IVec S_ 1 :=
  let main_c_6 : IVec S_ 1 := constantI S_ 1 1#1
  let main_v16 : IVec S_ 1 := (fun x v => Host.reduce IntOp.andi x v reducesTo_S2048x256_S_d0_1 h_S_) main_v15 main_c_6
  let main_cst_7 : FVec F S_ .f32 := constant S_ .f32 0x00000000#32
  let main_v17 : FVec F S768 .f32 := broadcastInDim S768 ![] bcast_S_S768 main_cst_7
  let main_v18 : IVec S768 1 := cmpf .oeq main_arg5 main_v17
  let main_c_8 : IVec S_ 1 := constantI S_ 1 1#1
  let main_v19 : IVec S_ 1 := (fun x v => Host.reduce IntOp.andi x v reducesTo_S768_S_d0 h_S_) main_v18 main_c_8
  let main_cst_9 : FVec F S_ .f32 := constant S_ .f32 0x00000000#32
  let main_v20 : FVec F S256 .f32 := broadcastInDim S256 ![] bcast_S_S256 main_cst_9
  let main_v21 : IVec S256 1 := cmpf .oeq main_arg7 main_v20
  let main_c_10 : IVec S_ 1 := constantI S_ 1 1#1
  let main_v22 : IVec S_ 1 := (fun x v => Host.reduce IntOp.andi x v reducesTo_S256_S_d0 h_S_) main_v21 main_c_10
  let main_v23 : IVec S_ 1 := andi main_v19 main_v22
  let main_cst_11 : FVec F S_ .f32 := constant S_ .f32 0x00000000#32
  let main_v24 : FVec F S1024 .f32 := broadcastInDim S1024 ![] bcast_S_S1024 main_cst_11
  let main_v25 : IVec S1024 1 := cmpf .oeq main_arg9 main_v24
  let main_c_12 : IVec S_ 1 := constantI S_ 1 1#1
  let main_v26 : IVec S_ 1 := (fun x v => Host.reduce IntOp.andi x v reducesTo_S1024_S_d0 h_S_) main_v25 main_c_12
  let main_v27 : IVec S_ 1 := andi main_v23 main_v26
  let main_cst_13 : FVec F S_ .f32 := constant S_ .f32 0x00000000#32
  let main_v28 : FVec F S256 .f32 := broadcastInDim S256 ![] bcast_S_S256 main_cst_13
  let main_v29 : IVec S256 1 := cmpf .oeq main_arg11 main_v28
  let main_c_14 : IVec S_ 1 := constantI S_ 1 1#1
  let main_v30 : IVec S_ 1 := (fun x v => Host.reduce IntOp.andi x v reducesTo_S256_S_d0 h_S_) main_v29 main_c_14
  fn_part2 (F := F) main_arg12 main_arg13 main_arg14 main_arg15 main_v9 main_v13 main_v16 main_v27 main_v30

def fn {F : FTy → Type} [FloatOps F] (main_arg0 : FVec F S256x256 .f32) (main_arg1 : FVec F S2048x256 .f32) (main_arg2 : FVec F S2048x256 .f32) (main_arg3 : FVec F S2048 .f32) (main_arg4 : FVec F S768x256 .f32) (main_arg5 : FVec F S768 .f32) (main_arg6 : FVec F S256x256 .f32) (main_arg7 : FVec F S256 .f32) (main_arg8 : FVec F S1024x256 .f32) (main_arg9 : FVec F S1024 .f32) (main_arg10 : FVec F S256x1024 .f32) (main_arg11 : FVec F S256 .f32) (main_arg12 : FVec F S256 .f32) (main_arg13 : FVec F S256 .f32) (main_arg14 : FVec F S256 .f32) (main_arg15 : FVec F S256 .f32) (main_arg16 : IVec S_ 32) : IVec S_ 1 :=
  let main_v0 : FVec F S2048x256 .f32 := Host.absf main_arg1
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S512x256 .f32 := (extractStridedSlice S512x256 ![0, 0] · slices_S768x256_S512x256_0_0) main_arg4
  let main_v5 : FVec F S512x256 .f32 := Host.absf main_v4
  let main_cst_0 : FVec F S_ .f32 := constant S_ .f32 0x7F800000#32
  let main_v6 : FVec F S512x256 .f32 := broadcastInDim S512x256 ![] bcast_S_S512x256 main_cst_0
  let main_v7 : IVec S512x256 1 := cmpf .olt main_v5 main_v6
  let main_c_1 : IVec S_ 1 := constantI S_ 1 1#1
  let main_v8 : IVec S_ 1 := (fun x v => Host.reduce IntOp.andi x v reducesTo_S512x256_S_d0_1 h_S_) main_v7 main_c_1
  let main_v9 : IVec S_ 1 := andi main_v3 main_v8
  let main_c_2 : IVec S_ 32 := constantI S_ 32 0#32
  let main_v10 : IVec S_ 1 := cmpi .sgt main_arg16 main_c_2
  let main_c_3 : IVec S_ 32 := constantI S_ 32 2048#32
  let main_v11 : IVec S_ 32 := Host.remsi main_arg16 main_c_3
  let main_c_4 : IVec S_ 32 := constantI S_ 32 0#32
  let main_v12 : IVec S_ 1 := cmpi .eq main_v11 main_c_4
  let main_v13 : IVec S_ 1 := andi main_v10 main_v12
  let main_cst_5 : FVec F S_ .f32 := constant S_ .f32 0x00000000#32
  let main_v14 : FVec F S2048x256 .f32 := broadcastInDim S2048x256 ![] bcast_S_S2048x256 main_cst_5
  let main_v15 : IVec S2048x256 1 := cmpf .oeq main_arg2 main_v14
  fn_part1 (F := F) main_arg5 main_arg7 main_arg9 main_arg11 main_arg12 main_arg13 main_arg14 main_arg15 main_v9 main_v13 main_v15
-- ==== Kernel.lean ====
abbrev S256x256 : Shape := ⟨2, ![256, 256]⟩
abbrev S2048x256 : Shape := ⟨2, ![2048, 256]⟩
abbrev S2048 : Shape := ⟨1, ![2048]⟩
abbrev S768x256 : Shape := ⟨2, ![768, 256]⟩
abbrev S768 : Shape := ⟨1, ![768]⟩
abbrev S256 : Shape := ⟨1, ![256]⟩
abbrev S1024x256 : Shape := ⟨2, ![1024, 256]⟩
abbrev S1024 : Shape := ⟨1, ![1024]⟩
abbrev S256x1024 : Shape := ⟨2, ![256, 1024]⟩
abbrev S_ : Shape := ⟨0, ![]⟩
abbrev S16x128 : Shape := ⟨2, ![16, 128]⟩
abbrev S256x1 : Shape := ⟨2, ![256, 1]⟩
abbrev S128x256 : Shape := ⟨2, ![128, 256]⟩
abbrev S128x1 : Shape := ⟨2, ![128, 1]⟩
abbrev S1x256 : Shape := ⟨2, ![1, 256]⟩
abbrev S1x2048 : Shape := ⟨2, ![1, 2048]⟩
abbrev S128 : Shape := ⟨1, ![128]⟩
abbrev S128x2048 : Shape := ⟨2, ![128, 2048]⟩
abbrev S1 : Shape := ⟨1, ![1]⟩
abbrev S1x1 : Shape := ⟨2, ![1, 1]⟩
abbrev S128x768 : Shape := ⟨2, ![128, 768]⟩
abbrev S128x32 : Shape := ⟨2, ![128, 32]⟩
abbrev S2048x32 : Shape := ⟨2, ![2048, 32]⟩
abbrev S128x1024 : Shape := ⟨2, ![128, 1024]⟩
abbrev S8x128 : Shape := ⟨2, ![8, 128]⟩
abbrev S1x128 : Shape := ⟨2, ![1, 128]⟩
abbrev S256x128 : Shape := ⟨2, ![256, 128]⟩

abbrev nBuf : Space → Nat
  | .hbm => 25
  | .vmem => 25
  | .smem => 0
  | _ => 0

abbrev bufTy : (tb : Table) → Fin (tcTables nBuf tb) → BufTy
  | .hbm, ⟨0, _⟩ => ⟨S256x256, .f32⟩
  | .hbm, ⟨1, _⟩ => ⟨S2048x256, .f32⟩
  | .hbm, ⟨2, _⟩ => ⟨S2048x256, .f32⟩
  | .hbm, ⟨3, _⟩ => ⟨S2048, .f32⟩
  | .hbm, ⟨4, _⟩ => ⟨S768x256, .f32⟩
  | .hbm, ⟨5, _⟩ => ⟨S768, .f32⟩
  | .hbm, ⟨6, _⟩ => ⟨S256x256, .f32⟩
  | .hbm, ⟨7, _⟩ => ⟨S256, .f32⟩
  | .hbm, ⟨8, _⟩ => ⟨S1024x256, .f32⟩
  | .hbm, ⟨9, _⟩ => ⟨S1024, .f32⟩
  | .hbm, ⟨10, _⟩ => ⟨S256x1024, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S_, .i32⟩
  | .hbm, ⟨17, _⟩ => ⟨S16x128, .f32⟩
  | .hbm, ⟨18, _⟩ => ⟨S256x256, .f32⟩
  | .hbm, ⟨19, _⟩ => ⟨S256x256, .f32⟩
  | .hbm, ⟨20, _⟩ => ⟨S256x1, .f32⟩
  | .hbm, ⟨21, _⟩ => ⟨S2048x256, .f32⟩
  | .hbm, ⟨22, _⟩ => ⟨S2048x256, .f32⟩
  | .hbm, ⟨23, _⟩ => ⟨S16x128, .f32⟩
  | .hbm, ⟨24, _⟩ => ⟨S2048, .f32⟩
  | .local _ .vmem, ⟨0, _⟩ => ⟨S128x256, .f32⟩
  | .local _ .vmem, ⟨1, _⟩ => ⟨S128x256, .f32⟩
  | .local _ .vmem, ⟨2, _⟩ => ⟨S2048x256, .f32⟩
  | .local _ .vmem, ⟨3, _⟩ => ⟨S768x256, .f32⟩
  | .local _ .vmem, ⟨4, _⟩ => ⟨S256x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x1, .f32⟩
  | .local _ .vmem, ⟨10, _⟩ => ⟨S128x1, .f32⟩
  | .local _ .vmem, ⟨11, _⟩ => ⟨S1024x256, .f32⟩
  | .local _ .vmem, ⟨12, _⟩ => ⟨S256x1024, .f32⟩
  | .local _ .vmem, ⟨13, _⟩ => ⟨S256x256, .f32⟩
  | .local _ .vmem, ⟨14, _⟩ => ⟨S256x1, .f32⟩
  | .local _ .vmem, ⟨15, _⟩ => ⟨S1024x256, .f32⟩
  | .local _ .vmem, ⟨16, _⟩ => ⟨S1024x256, .f32⟩
  | .local _ .vmem, ⟨17, _⟩ => ⟨S8x128, .f32⟩
  | .local _ .vmem, ⟨18, _⟩ => ⟨S8x128, .f32⟩
  | .local _ .vmem, ⟨19, _⟩ => ⟨S1024x256, .f32⟩
  | .local _ .vmem, ⟨20, _⟩ => ⟨S1024x256, .f32⟩
  | .local _ .vmem, ⟨21, _⟩ => ⟨S1024x256, .f32⟩
  | .local _ .vmem, ⟨22, _⟩ => ⟨S1024x256, .f32⟩
  | .local _ .vmem, ⟨23, _⟩ => ⟨S8x128, .f32⟩
  | .local _ .vmem, ⟨24, _⟩ => ⟨S8x128, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1_0 : Ref sig .tc := ⟨.hbm, 18, rfl⟩
abbrev main_v1_1 : Ref sig .tc := ⟨.hbm, 19, rfl⟩
abbrev main_v1_2 : Ref sig .tc := ⟨.hbm, 20, rfl⟩
abbrev main_v2_0 : Ref sig .tc := ⟨.hbm, 21, rfl⟩
abbrev main_v2_1 : Ref sig .tc := ⟨.hbm, 22, rfl⟩
abbrev main_v2_2 : Ref sig .tc := ⟨.hbm, 23, rfl⟩
abbrev main_v3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 13
abbrev cc1_sem1_0 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem5_1 : DmaSem sig := 22
abbrev cc1_sem6_0 : DmaSem sig := 23
abbrev cc1_sem6_1 : DmaSem sig := 24

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S256x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S256x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1024x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S8x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S256x256 : Shape := ⟨2, ![256, 256]⟩
abbrev S2048x256 : Shape := ⟨2, ![2048, 256]⟩
abbrev S2048 : Shape := ⟨1, ![2048]⟩
abbrev S768x256 : Shape := ⟨2, ![768, 256]⟩
abbrev S768 : Shape := ⟨1, ![768]⟩
abbrev S256 : Shape := ⟨1, ![256]⟩
abbrev S1024x256 : Shape := ⟨2, ![1024, 256]⟩
abbrev S1024 : Shape := ⟨1, ![1024]⟩
abbrev S256x1024 : Shape := ⟨2, ![256, 1024]⟩
abbrev S_ : Shape := ⟨0, ![]⟩
abbrev S256x1 : Shape := ⟨2, ![256, 1]⟩
abbrev S2048x1 : Shape := ⟨2, ![2048, 1]⟩
abbrev S256x2048 : Shape := ⟨2, ![256, 2048]⟩
abbrev S1x256 : Shape := ⟨2, ![1, 256]⟩
abbrev S256x8x32 : Shape := ⟨3, ![256, 8, 32]⟩
abbrev S2048x8x32 : Shape := ⟨3, ![2048, 8, 32]⟩
abbrev S8x2048x256 : Shape := ⟨3, ![8, 2048, 256]⟩
abbrev S256x8x2048 : Shape := ⟨3, ![256, 8, 2048]⟩
abbrev S256x8 : Shape := ⟨2, ![256, 8]⟩
abbrev S256x8x1 : Shape := ⟨3, ![256, 8, 1]⟩
abbrev S256x8x2049 : Shape := ⟨3, ![256, 8, 2049]⟩
abbrev S8x32x256 : Shape := ⟨3, ![8, 32, 256]⟩
abbrev S1 : Shape := ⟨1, ![1]⟩
abbrev S1x1024 : Shape := ⟨2, ![1, 1024]⟩

abbrev nBuf : Space → Nat
  | .hbm => 335
  | .vmem => 0
  | .smem => 0
  | _ => 0

abbrev hbmTy0_0 (i : Nat) : BufTy := match i % 128 with
  | 0 => ⟨S256x256, .f32⟩
  | 1 => ⟨S2048x256, .f32⟩
  | 2 => ⟨S2048x256, .f32⟩
  | 3 => ⟨S2048, .f32⟩
  | 4 => ⟨S768x256, .f32⟩
  | 5 => ⟨S768, .f32⟩
  | 6 => ⟨S256x256, .f32⟩
  | 7 => ⟨S256, .f32⟩
  | 8 => ⟨S1024x256, .f32⟩
  | 9 => ⟨S1024, .f32⟩
  | 10 => ⟨S256x1024, .f32⟩
  | 11 => ⟨S256, .f32⟩
  | 12 => ⟨S256, .f32⟩
  | 13 => ⟨S256, .f32⟩
  | 14 => ⟨S256, .f32⟩
  | 15 => ⟨S256, .f32⟩
  | 16 => ⟨S_, .i32⟩
  | 17 => ⟨S256x256, .f32⟩
  | 18 => ⟨S_, .f32⟩
  | 19 => ⟨S256, .f32⟩
  | 20 => ⟨S256x1, .f32⟩
  | 21 => ⟨S256x1, .f32⟩
  | 22 => ⟨S_, .f32⟩
  | 23 => ⟨S256x1, .f32⟩
  | 24 => ⟨S256x1, .f32⟩
  | 25 => ⟨S256x256, .f32⟩
  | 26 => ⟨S256x256, .f32⟩
  | 27 => ⟨S2048x256, .f32⟩
  | 28 => ⟨S_, .f32⟩
  | 29 => ⟨S2048, .f32⟩
  | 30 => ⟨S2048x1, .f32⟩
  | 31 => ⟨S2048x1, .f32⟩
  | 32 => ⟨S_, .f32⟩
  | 33 => ⟨S2048x1, .f32⟩
  | 34 => ⟨S2048x1, .f32⟩
  | 35 => ⟨S2048x256, .f32⟩
  | 36 => ⟨S2048x256, .f32⟩
  | 37 => ⟨S256x2048, .f32⟩
  | 38 => ⟨S256x2048, .f32⟩
  | 39 => ⟨S2048x256, .f32⟩
  | 40 => ⟨S_, .f32⟩
  | 41 => ⟨S_, .f32⟩
  | 42 => ⟨S_, .f32⟩
  | 43 => ⟨S_, .f32⟩
  | 44 => ⟨S_, .i1⟩
  | 45 => ⟨S_, .f32⟩
  | 46 => ⟨S256, .f32⟩
  | 47 => ⟨S_, .f32⟩
  | 48 => ⟨S256, .f32⟩
  | 49 => ⟨S_, .f32⟩
  | 50 => ⟨S256, .f32⟩
  | 51 => ⟨S256, .f32⟩
  | 52 => ⟨S256, .f32⟩
  | 53 => ⟨S256x256, .f32⟩
  | 54 => ⟨S256x256, .f32⟩
  | 55 => ⟨S256x256, .f32⟩
  | 56 => ⟨S256, .f32⟩
  | 57 => ⟨S256, .f32⟩
  | 58 => ⟨S256, .f32⟩
  | 59 => ⟨S256x256, .f32⟩
  | 60 => ⟨S256x256, .f32⟩
  | 61 => ⟨S1x256, .f32⟩
  | 62 => ⟨S256x256, .f32⟩
  | 63 => ⟨S256x256, .f32⟩
  | 64 => ⟨S256x8x32, .f32⟩
  | 65 => ⟨S256x256, .f32⟩
  | 66 => ⟨S2048x256, .f32⟩
  | 67 => ⟨S1x256, .f32⟩
  | 68 => ⟨S2048x256, .f32⟩
  | 69 => ⟨S2048x256, .f32⟩
  | 70 => ⟨S2048x8x32, .f32⟩
  | 71 => ⟨S256x256, .f32⟩
  | 72 => ⟨S2048x256, .f32⟩
  | 73 => ⟨S1x256, .f32⟩
  | 74 => ⟨S2048x256, .f32⟩
  | 75 => ⟨S2048x256, .f32⟩
  | 76 => ⟨S2048x8x32, .f32⟩
  | 77 => ⟨S256x256, .f32⟩
  | 78 => ⟨S256x256, .f32⟩
  | 79 => ⟨S1x256, .f32⟩
  | 80 => ⟨S256x256, .f32⟩
  | 81 => ⟨S256x256, .f32⟩
  | 82 => ⟨S256x8x32, .f32⟩
  | 83 => ⟨S256x256, .f32⟩
  | 84 => ⟨S256x256, .f32⟩
  | 85 => ⟨S1x256, .f32⟩
  | 86 => ⟨S256x256, .f32⟩
  | 87 => ⟨S256x256, .f32⟩
  | 88 => ⟨S256x8x32, .f32⟩
  | 89 => ⟨S8x2048x256, .f32⟩
  | 90 => ⟨S256x8x2048, .f32⟩
  | 91 => ⟨S_, .f32⟩
  | 92 => ⟨S256x8x2048, .f32⟩
  | 93 => ⟨S256x8x2048, .f32⟩
  | 94 => ⟨S256x8x32, .f32⟩
  | 95 => ⟨S_, .f32⟩
  | 96 => ⟨S256x8, .f32⟩
  | 97 => ⟨S_, .f32⟩
  | 98 => ⟨S256x8, .f32⟩
  | 99 => ⟨S256x8, .f32⟩
  | 100 => ⟨S256x8x1, .f32⟩
  | 101 => ⟨S256x8x2049, .f32⟩
  | 102 => ⟨S_, .f32⟩
  | 103 => ⟨S256x8, .f32⟩
  | 104 => ⟨S_, .f32⟩
  | 105 => ⟨S256x8, .f32⟩
  | 106 => ⟨S256x8, .f32⟩
  | 107 => ⟨S256x8x1, .f32⟩
  | 108 => ⟨S256x8x2049, .f32⟩
  | 109 => ⟨S256x8x2049, .f32⟩
  | 110 => ⟨S256x8x2049, .f32⟩
  | 111 => ⟨S_, .f32⟩
  | 112 => ⟨S256x8, .f32⟩
  | 113 => ⟨S256x8x1, .f32⟩
  | 114 => ⟨S256x8x2049, .f32⟩
  | 115 => ⟨S256x8x2049, .f32⟩
  | 116 => ⟨S256x8x2048, .f32⟩
  | 117 => ⟨S8x32x256, .f32⟩
  | 118 => ⟨S256x8x32, .f32⟩
  | 119 => ⟨S256x8x1, .f32⟩
  | 120 => ⟨S256x8, .f32⟩
  | 121 => ⟨S256x8x1, .f32⟩
  | 122 => ⟨S256x8x32, .f32⟩
  | 123 => ⟨S256x8x32, .f32⟩
  | 124 => ⟨S256x8x32, .f32⟩
  | 125 => ⟨S256x256, .f32⟩
  | 126 => ⟨S256x256, .f32⟩
  | 127 => ⟨S256x256, .f32⟩
  | _ => ⟨S256x256, .f32⟩

abbrev hbmTy0_1 (i : Nat) : BufTy := match i % 128 with
  | 0 => ⟨S1x256, .f32⟩
  | 1 => ⟨S256x256, .f32⟩
  | 2 => ⟨S256x256, .f32⟩
  | 3 => ⟨S256x256, .f32⟩
  | 4 => ⟨S_, .f32⟩
  | 5 => ⟨S256, .f32⟩
  | 6 => ⟨S256x1, .f32⟩
  | 7 => ⟨S_, .f32⟩
  | 8 => ⟨S256x1, .f32⟩
  | 9 => ⟨S256x1, .f32⟩
  | 10 => ⟨S256x256, .f32⟩
  | 11 => ⟨S256x256, .f32⟩
  | 12 => ⟨S256x256, .f32⟩
  | 13 => ⟨S_, .f32⟩
  | 14 => ⟨S256, .f32⟩
  | 15 => ⟨S256x1, .f32⟩
  | 16 => ⟨S_, .f32⟩
  | 17 => ⟨S256x1, .f32⟩
  | 18 => ⟨S256x1, .f32⟩
  | 19 => ⟨S256x256, .f32⟩
  | 20 => ⟨S256x256, .f32⟩
  | 21 => ⟨S_, .f32⟩
  | 22 => ⟨S256x1, .f32⟩
  | 23 => ⟨S256x1, .f32⟩
  | 24 => ⟨S256x1, .f32⟩
  | 25 => ⟨S256x256, .f32⟩
  | 26 => ⟨S256x256, .f32⟩
  | 27 => ⟨S1x256, .f32⟩
  | 28 => ⟨S256x256, .f32⟩
  | 29 => ⟨S256x256, .f32⟩
  | 30 => ⟨S1x256, .f32⟩
  | 31 => ⟨S256x256, .f32⟩
  | 32 => ⟨S256x256, .f32⟩
  | 33 => ⟨S_, .i32⟩
  | 34 => ⟨S256x256, .f32⟩
  | 35 => ⟨S256, .f32⟩
  | 36 => ⟨S_, .i32⟩
  | 37 => ⟨S2048x256, .f32⟩
  | 38 => ⟨S2048x256, .f32⟩
  | 39 => ⟨S2048, .f32⟩
  | 40 => ⟨S_, .i32⟩
  | 41 => ⟨S_, .i32⟩
  | 42 => ⟨S_, .i1⟩
  | 43 => ⟨S_, .i32⟩
  | 44 => ⟨S1x256, .f32⟩
  | 45 => ⟨S256, .f32⟩
  | 46 => ⟨S1, .f32⟩
  | 47 => ⟨S_, .f32⟩
  | 48 => ⟨S_, .f32⟩
  | 49 => ⟨S_, .i1⟩
  | 50 => ⟨S_, .i32⟩
  | 51 => ⟨S_, .i1⟩
  | 52 => ⟨S_, .i1⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S_, .i32⟩
  | 60 => ⟨S_, .i32⟩
  | 61 => ⟨S_, .i1⟩
  | 62 => ⟨S_, .i32⟩
  | 63 => ⟨S_, .i1⟩
  | 64 => ⟨S_, .i32⟩
  | 65 => ⟨S_, .i1⟩
  | 66 => ⟨S_, .i1⟩
  | 67 => ⟨S_, .i1⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S_, .i32⟩
  | 81 => ⟨S_, .i32⟩
  | 82 => ⟨S_, .i32⟩
  | 83 => ⟨S1x256, .f32⟩
  | 84 => ⟨S256, .f32⟩
  | 85 => ⟨S256, .f32⟩
  | 86 => ⟨S_, .i32⟩
  | 87 => ⟨S_, .i1⟩
  | 88 => ⟨S_, .i32⟩
  | 89 => ⟨S_, .i32⟩
  | 90 => ⟨S_, .i32⟩
  | 91 => ⟨S_, .i32⟩
  | 92 => ⟨S_, .i32⟩
  | 93 => ⟨S_, .i1⟩
  | 94 => ⟨S_, .i32⟩
  | 95 => ⟨S_, .i32⟩
  | 96 => ⟨S_, .i32⟩
  | 97 => ⟨S_, .i32⟩
  | 98 => ⟨S_, .i32⟩
  | 99 => ⟨S1x256, .f32⟩
  | 100 => ⟨S256, .f32⟩
  | 101 => ⟨S_, .f32⟩
  | 102 => ⟨S256, .f32⟩
  | 103 => ⟨S256, .f32⟩
  | 104 => ⟨S_, .f32⟩
  | 105 => ⟨S256, .f32⟩
  | 106 => ⟨S256, .f32⟩
  | 107 => ⟨S256, .f32⟩
  | 108 => ⟨S_, .f32⟩
  | 109 => ⟨S256, .f32⟩
  | 110 => ⟨S256, .f32⟩
  | 111 => ⟨S_, .f32⟩
  | 112 => ⟨S_, .f32⟩
  | 113 => ⟨S256, .f32⟩
  | 114 => ⟨S256, .f32⟩
  | 115 => ⟨S_, .i32⟩
  | 116 => ⟨S_, .i1⟩
  | 117 => ⟨S_, .i32⟩
  | 118 => ⟨S_, .i32⟩
  | 119 => ⟨S_, .i32⟩
  | 120 => ⟨S1, .i32⟩
  | 121 => ⟨S2048x256, .f32⟩
  | 122 => ⟨S_, .i32⟩
  | 123 => ⟨S_, .i1⟩
  | 124 => ⟨S_, .i32⟩
  | 125 => ⟨S_, .i32⟩
  | 126 => ⟨S_, .i32⟩
  | 127 => ⟨S_, .i32⟩
  | _ => ⟨S256x256, .f32⟩

abbrev hbmTy0_2 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S_, .i32⟩
  | 6 => ⟨S_, .i32⟩
  | 7 => ⟨S1x256, .f32⟩
  | 8 => ⟨S256, .f32⟩
  | 9 => ⟨S256, .f32⟩
  | 10 => ⟨S_, .i32⟩
  | 11 => ⟨S_, .i1⟩
  | 12 => ⟨S_, .i32⟩
  | 13 => ⟨S_, .i32⟩
  | 14 => ⟨S_, .i32⟩
  | 15 => ⟨S1, .i32⟩
  | 16 => ⟨S2048x256, .f32⟩
  | 17 => ⟨S_, .i32⟩
  | 18 => ⟨S_, .i1⟩
  | 19 => ⟨S_, .i32⟩
  | 20 => ⟨S_, .i32⟩
  | 21 => ⟨S_, .i32⟩
  | 22 => ⟨S1, .f32⟩
  | 23 => ⟨S_, .f32⟩
  | 24 => ⟨S_, .f32⟩
  | 25 => ⟨S_, .i32⟩
  | 26 => ⟨S_, .i1⟩
  | 27 => ⟨S_, .i32⟩
  | 28 => ⟨S_, .i32⟩
  | 29 => ⟨S_, .i32⟩
  | 30 => ⟨S1, .i32⟩
  | 31 => ⟨S2048, .f32⟩
  | 32 => ⟨S_, .i32⟩
  | 33 => ⟨S_, .i32⟩
  | 34 => ⟨S_, .i32⟩
  | 35 => ⟨S_, .i32⟩
  | 36 => ⟨S256x1024, .f32⟩
  | 37 => ⟨S256x1024, .f32⟩
  | 38 => ⟨S1x1024, .f32⟩
  | 39 => ⟨S256x1024, .f32⟩
  | 40 => ⟨S256x1024, .f32⟩
  | 41 => ⟨S_, .f32⟩
  | 42 => ⟨S256x1024, .f32⟩
  | 43 => ⟨S256x1024, .f32⟩
  | 44 => ⟨S1024x256, .f32⟩
  | 45 => ⟨S256x256, .f32⟩
  | 46 => ⟨S1x256, .f32⟩
  | 47 => ⟨S256x256, .f32⟩
  | 48 => ⟨S256x256, .f32⟩
  | 49 => ⟨S256x256, .f32⟩
  | 50 => ⟨S_, .f32⟩
  | 51 => ⟨S256, .f32⟩
  | 52 => ⟨S256x1, .f32⟩
  | 53 => ⟨S_, .f32⟩
  | 54 => ⟨S256x1, .f32⟩
  | 55 => ⟨S256x1, .f32⟩
  | 56 => ⟨S256x256, .f32⟩
  | 57 => ⟨S256x256, .f32⟩
  | 58 => ⟨S256x256, .f32⟩
  | 59 => ⟨S_, .f32⟩
  | 60 => ⟨S256, .f32⟩
  | 61 => ⟨S256x1, .f32⟩
  | 62 => ⟨S_, .f32⟩
  | 63 => ⟨S256x1, .f32⟩
  | 64 => ⟨S256x1, .f32⟩
  | 65 => ⟨S256x256, .f32⟩
  | 66 => ⟨S256x256, .f32⟩
  | 67 => ⟨S_, .f32⟩
  | 68 => ⟨S256x1, .f32⟩
  | 69 => ⟨S256x1, .f32⟩
  | 70 => ⟨S256x1, .f32⟩
  | 71 => ⟨S256x256, .f32⟩
  | 72 => ⟨S256x256, .f32⟩
  | 73 => ⟨S1x256, .f32⟩
  | 74 => ⟨S256x256, .f32⟩
  | 75 => ⟨S256x256, .f32⟩
  | 76 => ⟨S1x256, .f32⟩
  | 77 => ⟨S256x256, .f32⟩
  | 78 => ⟨S256x256, .f32⟩
  | _ => ⟨S256x256, .f32⟩

abbrev hbmTy (i : Nat) : BufTy := match i / 128 with
  | 0 => hbmTy0_0 i
  | 1 => hbmTy0_1 i
  | 2 => hbmTy0_2 i
  | _ => ⟨S256x256, .f32⟩

abbrev bufTy : (tb : Table) → Fin (tcTables nBuf tb) → BufTy
  | .hbm, ⟨i, _⟩ => hbmTy i
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_call0_v2 : Ref sig .tc := ⟨.hbm, 20, rfl⟩
abbrev main_v0 : Ref sig .tc := ⟨.hbm, 21, rfl⟩
abbrev main_cst : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_call1_v0 : Ref sig .tc := ⟨.hbm, 27, rfl⟩
abbrev main_call1_cst : Ref sig .tc := ⟨.hbm, 28, rfl⟩
abbrev main_call1_v1 : Ref sig .tc := ⟨.hbm, 29, rfl⟩
abbrev main_call1_v2 : Ref sig .tc := ⟨.hbm, 30, rfl⟩
abbrev main_v5 : Ref sig .tc := ⟨.hbm, 31, rfl⟩
abbrev main_cst_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_call2_v0 : Ref sig .tc := ⟨.hbm, 39, rfl⟩
abbrev main_call2_cst : Ref sig .tc := ⟨.hbm, 40, rfl⟩
abbrev main_call2_v1 : Ref sig .tc := ⟨.hbm, 41, rfl⟩
abbrev main_v12 : Ref sig .tc := ⟨.hbm, 42, rfl⟩
abbrev main_cst_1 : Ref sig .tc := ⟨.hbm, 43, rfl⟩
abbrev main_v13 : Ref sig .tc := ⟨.hbm, 44, rfl⟩
abbrev main_cst_2 : Ref sig .tc := ⟨.hbm, 45, rfl⟩
abbrev main_v14 : Ref sig .tc := ⟨.hbm, 46, rfl⟩
abbrev main_cst_3 : Ref sig .tc := ⟨.hbm, 47, rfl⟩
abbrev main_v15 : Ref sig .tc := ⟨.hbm, 48, rfl⟩
abbrev main_cst_4 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_5 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_6 : Ref sig .tc := ⟨.hbm, 95, rfl⟩
abbrev main_v60 : Ref sig .tc := ⟨.hbm, 96, rfl⟩
abbrev main_cst_7 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_8 : Ref sig .tc := ⟨.hbm, 102, rfl⟩
abbrev main_v65 : Ref sig .tc := ⟨.hbm, 103, rfl⟩
abbrev main_cst_9 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_10 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_11 : Ref sig .tc := ⟨.hbm, 132, rfl⟩
abbrev main_v92 : Ref sig .tc := ⟨.hbm, 133, rfl⟩
abbrev main_v93 : Ref sig .tc := ⟨.hbm, 134, rfl⟩
abbrev main_cst_12 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_13 : Ref sig .tc := ⟨.hbm, 141, rfl⟩
abbrev main_v99 : Ref sig .tc := ⟨.hbm, 142, rfl⟩
abbrev main_v100 : Ref sig .tc := ⟨.hbm, 143, rfl⟩
abbrev main_cst_14 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_15 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_c : Ref sig .tc := ⟨.hbm, 161, rfl⟩
abbrev main_v116_0 : Ref sig .tc := ⟨.hbm, 162, rfl⟩
abbrev main_v116_1 : Ref sig .tc := ⟨.hbm, 163, rfl⟩
abbrev main_v116_2 : Ref sig .tc := ⟨.hbm, 164, rfl⟩
abbrev main_v116_3 : Ref sig .tc := ⟨.hbm, 165, rfl⟩
abbrev main_v116_4 : Ref sig .tc := ⟨.hbm, 166, rfl⟩
abbrev main_v116_5 : Ref sig .tc := ⟨.hbm, 167, rfl⟩
abbrev main_v116_6 : Ref sig .tc := ⟨.hbm, 168, rfl⟩
abbrev main_while0c_c_27 : Ref sig .tc := ⟨.hbm, 169, rfl⟩
abbrev main_while0c_v153 : Ref sig .tc := ⟨.hbm, 170, rfl⟩
abbrev main_while0b_call4_c : Ref sig .tc := ⟨.hbm, 171, rfl⟩
abbrev main_while0b_call4_v0 : Ref sig .tc := ⟨.hbm, 172, rfl⟩
abbrev main_while0b_v153 : Ref sig .tc := ⟨.hbm, 173, rfl⟩
abbrev main_while0b_call5_v0 : Ref sig .tc := ⟨.hbm, 174, rfl⟩
abbrev main_while0b_v154 : Ref sig .tc := ⟨.hbm, 175, rfl⟩
abbrev main_while0b_cst_27 : Ref sig .tc := ⟨.hbm, 176, rfl⟩
abbrev main_while0b_v155 : Ref sig .tc := ⟨.hbm, 177, rfl⟩
abbrev main_while0b_c_28 : Ref sig .tc := ⟨.hbm, 178, rfl⟩
abbrev main_while0b_v156 : Ref sig .tc := ⟨.hbm, 179, rfl⟩
abbrev main_while0b_v157 : Ref sig .tc := ⟨.hbm, 180, rfl⟩
abbrev main_while0b_c_29 : Ref sig .tc := ⟨.hbm, 181, rfl⟩
abbrev main_while0b_call6_v0 : Ref sig .tc := ⟨.hbm, 182, rfl⟩
abbrev main_while0b_call6_c : Ref sig .tc := ⟨.hbm, 183, rfl⟩
abbrev main_while0b_call6_v1 : Ref sig .tc := ⟨.hbm, 184, rfl⟩
abbrev main_while0b_call6_c_0 : Ref sig .tc := ⟨.hbm, 185, rfl⟩
abbrev main_while0b_call6_v2 : Ref sig .tc := ⟨.hbm, 186, rfl⟩
abbrev main_while0b_call6_v3 : Ref sig .tc := ⟨.hbm, 187, rfl⟩
abbrev main_while0b_call6_c_1 : Ref sig .tc := ⟨.hbm, 188, rfl⟩
abbrev main_while0b_call6_v4 : Ref sig .tc := ⟨.hbm, 189, rfl⟩
abbrev main_while0b_call6_c_2 : Ref sig .tc := ⟨.hbm, 190, rfl⟩
abbrev main_while0b_call6_v5 : Ref sig .tc := ⟨.hbm, 191, rfl⟩
abbrev main_while0b_call6_c_3 : Ref sig .tc := ⟨.hbm, 192, rfl⟩
abbrev main_while0b_call6_v6 : Ref sig .tc := ⟨.hbm, 193, rfl⟩
abbrev main_while0b_call6_v7 : Ref sig .tc := ⟨.hbm, 194, rfl⟩
abbrev main_while0b_call6_v8 : Ref sig .tc := ⟨.hbm, 195, rfl⟩
abbrev main_while0b_call6_v9 : Ref sig .tc := ⟨.hbm, 196, rfl⟩
abbrev main_while0b_v158 : Ref sig .tc := ⟨.hbm, 197, rfl⟩
abbrev main_while0b_c_30 : Ref sig .tc := ⟨.hbm, 198, rfl⟩
abbrev main_while0b_v159 : Ref sig .tc := ⟨.hbm, 199, rfl⟩
abbrev main_while0b_c_31 : Ref sig .tc := ⟨.hbm, 200, rfl⟩
abbrev main_while0b_v160 : Ref sig .tc := ⟨.hbm, 201, rfl⟩
abbrev main_while0b_v161 : Ref sig .tc := ⟨.hbm, 202, rfl⟩
abbrev main_while0b_c_32 : Ref sig .tc := ⟨.hbm, 203, rfl⟩
abbrev main_while0b_c_33 : Ref sig .tc := ⟨.hbm, 204, rfl⟩
abbrev main_while0b_v162 : Ref sig .tc := ⟨.hbm, 205, rfl⟩
abbrev main_while0b_c_34 : Ref sig .tc := ⟨.hbm, 206, rfl⟩
abbrev main_while0b_c_35 : Ref sig .tc := ⟨.hbm, 207, rfl⟩
abbrev main_while0b_v163 : Ref sig .tc := ⟨.hbm, 208, rfl⟩
abbrev main_while0b_c_36 : Ref sig .tc := ⟨.hbm, 209, rfl⟩
abbrev main_while0b_v164 : Ref sig .tc := ⟨.hbm, 210, rfl⟩
abbrev main_while0b_v165 : Ref sig .tc := ⟨.hbm, 211, rfl⟩
abbrev main_while0b_v166 : Ref sig .tc := ⟨.hbm, 212, rfl⟩
abbrev main_while0b_v167 : Ref sig .tc := ⟨.hbm, 213, rfl⟩
abbrev main_while0b_c_37 : Ref sig .tc := ⟨.hbm, 214, rfl⟩
abbrev main_while0b_v168 : Ref sig .tc := ⟨.hbm, 215, rfl⟩
abbrev main_while0b_c_38 : Ref sig .tc := ⟨.hbm, 216, rfl⟩
abbrev main_while0b_v169 : Ref sig .tc := ⟨.hbm, 217, rfl⟩
abbrev main_while0b_v170 : Ref sig .tc := ⟨.hbm, 218, rfl⟩
abbrev main_while0b_c_39 : Ref sig .tc := ⟨.hbm, 219, rfl⟩
abbrev main_while0b_c_40 : Ref sig .tc := ⟨.hbm, 220, rfl⟩
abbrev main_while0b_v171 : Ref sig .tc := ⟨.hbm, 221, rfl⟩
abbrev main_while0b_c_41 : Ref sig .tc := ⟨.hbm, 222, rfl⟩
abbrev main_while0b_c_42 : Ref sig .tc := ⟨.hbm, 223, rfl⟩
abbrev main_while0b_v172 : Ref sig .tc := ⟨.hbm, 224, rfl⟩
abbrev main_while0b_c_43 : Ref sig .tc := ⟨.hbm, 225, rfl⟩
abbrev main_while0b_v173 : Ref sig .tc := ⟨.hbm, 226, rfl⟩
abbrev main_while0b_v174 : Ref sig .tc := ⟨.hbm, 227, rfl⟩
abbrev main_while0b_v175 : Ref sig .tc := ⟨.hbm, 228, rfl⟩
abbrev main_while0b_cst_44 : Ref sig .tc := ⟨.hbm, 229, rfl⟩
abbrev main_while0b_v176 : Ref sig .tc := ⟨.hbm, 230, rfl⟩
abbrev main_while0b_v177 : Ref sig .tc := ⟨.hbm, 231, rfl⟩
abbrev main_while0b_cst_45 : Ref sig .tc := ⟨.hbm, 232, rfl⟩
abbrev main_while0b_v178 : Ref sig .tc := ⟨.hbm, 233, rfl⟩
abbrev main_while0b_v179 : Ref sig .tc := ⟨.hbm, 234, rfl⟩
abbrev main_while0b_v180 : Ref sig .tc := ⟨.hbm, 235, rfl⟩
abbrev main_while0b_cst_46 : Ref sig .tc := ⟨.hbm, 236, rfl⟩
abbrev main_while0b_v181 : Ref sig .tc := ⟨.hbm, 237, rfl⟩
abbrev main_while0b_v182 : Ref sig .tc := ⟨.hbm, 238, rfl⟩
abbrev main_while0b_cst_47 : Ref sig .tc := ⟨.hbm, 239, rfl⟩
abbrev main_while0b_call7_v0 : Ref sig .tc := ⟨.hbm, 240, rfl⟩
abbrev main_while0b_call7_v1 : Ref sig .tc := ⟨.hbm, 241, rfl⟩
abbrev main_while0b_v183 : Ref sig .tc := ⟨.hbm, 242, rfl⟩
abbrev main_while0b_c_48 : Ref sig .tc := ⟨.hbm, 243, rfl⟩
abbrev main_while0b_v184 : Ref sig .tc := ⟨.hbm, 244, rfl⟩
abbrev main_while0b_c_49 : Ref sig .tc := ⟨.hbm, 245, rfl⟩
abbrev main_while0b_v185 : Ref sig .tc := ⟨.hbm, 246, rfl⟩
abbrev main_while0b_v186 : Ref sig .tc := ⟨.hbm, 247, rfl⟩
abbrev main_while0b_v187 : Ref sig .tc := ⟨.hbm, 248, rfl⟩
abbrev main_while0b_v188 : Ref sig .tc := ⟨.hbm, 249, rfl⟩
abbrev main_while0b_c_50 : Ref sig .tc := ⟨.hbm, 250, rfl⟩
abbrev main_while0b_v189 : Ref sig .tc := ⟨.hbm, 251, rfl⟩
abbrev main_while0b_c_51 : Ref sig .tc := ⟨.hbm, 252, rfl⟩
abbrev main_while0b_v190 : Ref sig .tc := ⟨.hbm, 253, rfl⟩
abbrev main_while0b_v191 : Ref sig .tc := ⟨.hbm, 254, rfl⟩
abbrev main_while0b_c_52 : Ref sig .tc := ⟨.hbm, 255, rfl⟩
abbrev main_while0b_c_53 : Ref sig .tc := ⟨.hbm, 256, rfl⟩
abbrev main_while0b_v192 : Ref sig .tc := ⟨.hbm, 257, rfl⟩
abbrev main_while0b_c_54 : Ref sig .tc := ⟨.hbm, 258, rfl⟩
abbrev main_while0b_c_55 : Ref sig .tc := ⟨.hbm, 259, rfl⟩
abbrev main_while0b_v193 : Ref sig .tc := ⟨.hbm, 260, rfl⟩
abbrev main_while0b_c_56 : Ref sig .tc := ⟨.hbm, 261, rfl⟩
abbrev main_while0b_v194 : Ref sig .tc := ⟨.hbm, 262, rfl⟩
abbrev main_while0b_v195 : Ref sig .tc := ⟨.hbm, 263, rfl⟩
abbrev main_while0b_v196 : Ref sig .tc := ⟨.hbm, 264, rfl⟩
abbrev main_while0b_v197 : Ref sig .tc := ⟨.hbm, 265, rfl⟩
abbrev main_while0b_c_57 : Ref sig .tc := ⟨.hbm, 266, rfl⟩
abbrev main_while0b_v198 : Ref sig .tc := ⟨.hbm, 267, rfl⟩
abbrev main_while0b_c_58 : Ref sig .tc := ⟨.hbm, 268, rfl⟩
abbrev main_while0b_v199 : Ref sig .tc := ⟨.hbm, 269, rfl⟩
abbrev main_while0b_v200 : Ref sig .tc := ⟨.hbm, 270, rfl⟩
abbrev main_while0b_v201 : Ref sig .tc := ⟨.hbm, 271, rfl⟩
abbrev main_while0b_v202 : Ref sig .tc := ⟨.hbm, 272, rfl⟩
abbrev main_while0b_c_59 : Ref sig .tc := ⟨.hbm, 273, rfl⟩
abbrev main_while0b_v203 : Ref sig .tc := ⟨.hbm, 274, rfl⟩
abbrev main_while0b_c_60 : Ref sig .tc := ⟨.hbm, 275, rfl⟩
abbrev main_while0b_v204 : Ref sig .tc := ⟨.hbm, 276, rfl⟩
abbrev main_while0b_v205 : Ref sig .tc := ⟨.hbm, 277, rfl⟩
abbrev main_while0b_v206 : Ref sig .tc := ⟨.hbm, 278, rfl⟩
abbrev main_while0b_v207 : Ref sig .tc := ⟨.hbm, 279, rfl⟩
abbrev main_while0b_v208 : Ref sig .tc := ⟨.hbm, 280, rfl⟩
abbrev main_while0b_c_61 : Ref sig .tc := ⟨.hbm, 281, rfl⟩
abbrev main_while0b_v209 : Ref sig .tc := ⟨.hbm, 282, rfl⟩
abbrev main_while0b_c_62 : Ref sig .tc := ⟨.hbm, 283, rfl⟩
abbrev main_while0b_v210 : Ref sig .tc := ⟨.hbm, 284, rfl⟩
abbrev main_while0b_v211 : Ref sig .tc := ⟨.hbm, 285, rfl⟩
abbrev main_while0b_v212 : Ref sig .tc := ⟨.hbm, 286, rfl⟩
abbrev main_while0b_v213 : Ref sig .tc := ⟨.hbm, 287, rfl⟩
abbrev main_while0b_v214 : Ref sig .tc := ⟨.hbm, 288, rfl⟩
abbrev main_while0b_v215 : Ref sig .tc := ⟨.hbm, 289, rfl⟩
abbrev main_while0b_c_63 : Ref sig .tc := ⟨.hbm, 290, rfl⟩
abbrev main_while0b_v216 : Ref sig .tc := ⟨.hbm, 291, rfl⟩
abbrev main_v117 : Ref sig .tc := ⟨.hbm, 292, rfl⟩
abbrev main_v118 : Ref sig .tc := ⟨.hbm, 293, rfl⟩
abbrev main_v119 : Ref sig .tc := ⟨.hbm, 294, rfl⟩
abbrev main_v120 : Ref sig .tc := ⟨.hbm, 295, rfl⟩
abbrev main_v121 : Ref sig .tc := ⟨.hbm, 296, rfl⟩
abbrev main_call10_cst : Ref sig .tc := ⟨.hbm, 297, rfl⟩
abbrev main_call10_v0 : Ref sig .tc := ⟨.hbm, 298, rfl⟩
abbrev main_v122 : Ref sig .tc := ⟨.hbm, 299, rfl⟩
abbrev main_v123 : Ref sig .tc := ⟨.hbm, 300, rfl⟩
abbrev main_v124 : Ref sig .tc := ⟨.hbm, 301, rfl⟩
abbrev main_v125 : Ref sig .tc := ⟨.hbm, 302, rfl⟩
abbrev main_v126 : Ref sig .tc := ⟨.hbm, 303, rfl⟩
abbrev main_v127 : Ref sig .tc := ⟨.hbm, 304, rfl⟩
abbrev main_v128 : Ref sig .tc := ⟨.hbm, 305, rfl⟩
abbrev main_cst_16 : Ref sig .tc := ⟨.hbm, 306, rfl⟩
abbrev main_v129 : Ref sig .tc := ⟨.hbm, 307, rfl⟩
abbrev main_v130 : Ref sig .tc := ⟨.hbm, 308, rfl⟩
abbrev main_cst_17 : Ref sig .tc := ⟨.hbm, 309, rfl⟩
abbrev main_v131 : Ref sig .tc := ⟨.hbm, 310, rfl⟩
abbrev main_v132 : Ref sig .tc := ⟨.hbm, 311, rfl⟩
abbrev main_v133 : Ref sig .tc := ⟨.hbm, 312, rfl⟩
abbrev main_v134 : Ref sig .tc := ⟨.hbm, 313, rfl⟩
abbrev main_v135 : Ref sig .tc := ⟨.hbm, 314, rfl⟩
abbrev main_cst_18 : Ref sig .tc := ⟨.hbm, 315, rfl⟩
abbrev main_v136 : Ref sig .tc := ⟨.hbm, 316, rfl⟩
abbrev main_v137 : Ref sig .tc := ⟨.hbm, 317, rfl⟩
abbrev main_cst_19 : Ref sig .tc := ⟨.hbm, 318, rfl⟩
abbrev main_v138 : Ref sig .tc := ⟨.hbm, 319, rfl⟩
abbrev main_v139 : Ref sig .tc := ⟨.hbm, 320, rfl⟩
abbrev main_v140 : Ref sig .tc := ⟨.hbm, 321, rfl⟩
abbrev main_v141 : Ref sig .tc := ⟨.hbm, 322, rfl⟩
abbrev main_cst_20 : Ref sig .tc := ⟨.hbm, 323, rfl⟩
abbrev main_v142 : Ref sig .tc := ⟨.hbm, 324, rfl⟩
abbrev main_v143 : Ref sig .tc := ⟨.hbm, 325, rfl⟩
abbrev main_v144 : Ref sig .tc := ⟨.hbm, 326, rfl⟩
abbrev main_v145 : Ref sig .tc := ⟨.hbm, 327, rfl⟩
abbrev main_v146 : Ref sig .tc := ⟨.hbm, 328, rfl⟩
abbrev main_v147 : Ref sig .tc := ⟨.hbm, 329, rfl⟩
abbrev main_v148 : Ref sig .tc := ⟨.hbm, 330, rfl⟩
abbrev main_v149 : Ref sig .tc := ⟨.hbm, 331, rfl⟩
abbrev main_v150 : Ref sig .tc := ⟨.hbm, 332, rfl⟩
abbrev main_v151 : Ref sig .tc := ⟨.hbm, 333, rfl⟩
abbrev main_v152 : Ref sig .tc := ⟨.hbm, 334, rfl⟩

abbrev nD : Nat := 1
abbrev τ : Topo := Topo.v7x

variable {F : FTy → Type} [FloatOps F]

abbrev main_while0_count : Scf.Loop 32 := ⟨0#32, 256#32, 1#32⟩
-- ==== Proof.RefFrame.lean ====
/- The reference's run at its arguments: no operation of the reference, before, in or after its loop, writes an argument. -/
module

public import proofs.«01_k».proof.Proof.Gen.ReferenceIdeal.Run
public import Idealize.ShloMosaic.Lib.Quiescent
public import proofs.«01_k».proof.Defs

@[expose] public section

noncomputable section

open Idealize.ShloMosaic Idealize.ShloMosaic.TcCoe Idealize.SL.Sem Idealize.ShloMosaic.StableHlo

namespace Cert.Proof.Ref

open Cert.ReferenceIdeal Cert.ReferenceIdeal.Gen Cert.ReferenceIdeal.Value

variable {F : FTy → Type} [FloatOps F]

/-- What the operations before the loop write. -/
abbrev preW : List (Ref sig .tc) := hostOps0_W ++ hostOps0_1_W ++ hostOps0_2_W ++ hostOps0_3_W ++ hostOps0_4_W ++ hostOps0_5_W ++ hostOps0_6_W ++ hostOps0_7_W
/-- What one trip of the loop writes. -/
abbrev bodyW : List (Ref sig .tc) := while0Ops0_W ++ while0Ops0_1_W ++ while0Ops0_2_W ++ while0Ops0_3_W ++ while0Ops0_4_W ++ while0Ops0_5_W ++ while0Ops0_6_W ++ while0Ops0_7_W ++ while0Ops0_8_W ++ while0Ops0_9_W ++ while0Ops0_10_W

/-- A buffer that no operation before the loop writes holds its launch contents at the loop's entry. -/
theorem pre_keep (V : Valuation τ sig (Elt F)) {r : Ref sig .tc} (hr : r ∉ preW) :
    afterL preI V (Proc.devRef .tc r) = V (Proc.devRef .tc r) := by
  simp only [preW, List.mem_append, not_or] at hr
  simp only [afterL_cons, afterL_nil]
  rw [after_of_writes_sub _ _ hostOps0_7_writes (hr.2),
    after_of_writes_sub _ _ hostOps0_6_writes (hr.1.2),
    after_of_writes_sub _ _ hostOps0_5_writes (hr.1.1.2),
    after_of_writes_sub _ _ hostOps0_4_writes (hr.1.1.1.2),
    after_of_writes_sub _ _ hostOps0_3_writes (hr.1.1.1.1.2),
    after_of_writes_sub _ _ hostOps0_2_writes (hr.1.1.1.1.1.2),
    after_of_writes_sub _ _ hostOps0_1_writes (hr.1.1.1.1.1.1.2),
    after_of_writes_sub _ _ hostOps0_writes (hr.1.1.1.1.1.1.1)]

/-- A buffer that no operation of the loop's body writes is left as it was by one trip. -/
theorem body_keep (V : Valuation τ sig (Elt F)) {r : Ref sig .tc} (hr : r ∉ bodyW) :
    afterL bodyI V (Proc.devRef .tc r) = V (Proc.devRef .tc r) := by
  simp only [bodyW, List.mem_append, not_or] at hr
  simp only [afterL_cons, afterL_nil]
  rw [after_of_writes_sub _ _ while0Ops0_10_writes (hr.2),
    after_of_writes_sub _ _ while0Ops0_9_writes (hr.1.2),
    after_of_writes_sub _ _ while0Ops0_8_writes (hr.1.1.2),
    after_of_writes_sub _ _ while0Ops0_7_writes (hr.1.1.1.2),
    after_of_writes_sub _ _ while0Ops0_6_writes (hr.1.1.1.1.2),
    after_of_writes_sub _ _ while0Ops0_5_writes (hr.1.1.1.1.1.2),
    after_of_writes_sub _ _ while0Ops0_4_writes (hr.1.1.1.1.1.1.2),
    after_of_writes_sub _ _ while0Ops0_3_writes (hr.1.1.1.1.1.1.1.2),
    after_of_writes_sub _ _ while0Ops0_2_writes (hr.1.1.1.1.1.1.1.1.2),
    after_of_writes_sub _ _ while0Ops0_1_writes (hr.1.1.1.1.1.1.1.1.1.2),
    after_of_writes_sub _ _ while0Ops0_writes (hr.1.1.1.1.1.1.1.1.1.1)]

variable (m : (ℓ : Loc nD τ sig) → Buf (Elt F) ℓ)

/-- A buffer the loop does not write holds at every trip what it held at the loop's entry. -/
theorem loop_keep (c : Dev nD) {r : Ref sig .tc} (hr : r ∉ bodyW) (hc : r ∉ condOps_W) :
    ∀ k, atK m k c (Proc.devRef .tc r) = entryContents preI m c (Proc.devRef .tc r)
  | 0 => rfl
  | k + 1 => by
    rw [show atK m (k + 1) c = afterL bodyI (after condOps (atK m k c)) from rfl, body_keep _ hr,
      after_of_writes_sub condOps _ condOps_writes hc, loop_keep c hr hc k]

/-- The reference each operation of `hostOps0_8` writes, in order. -/
abbrev hostOps0_8_W : List (Ref sig .tc) := [main_v117, main_v118, main_v119, main_v120, main_v121]
/-- Each operation of `hostOps0_8` writes within that list. -/
theorem hostOps0_8_writes : (hostOps0_8 : List (HloOp τ sig (Elt F))).Forall fun op => op.writes ⊆ (hostOps0_8_W.map (Proc.devRef (τ := τ) .tc)).toFinset :=
  StableHlo.forall_writes_sub_of_map rfl
/-- The reference each operation of `hostOps0_9` writes, in order. -/
abbrev hostOps0_9_W : List (Ref sig .tc) := [main_call10_cst, main_call10_v0, main_v122]
/-- Each operation of `hostOps0_9` writes within that list. -/
theorem hostOps0_9_writes : (hostOps0_9 : List (HloOp τ sig (Elt F))).Forall fun op => op.writes ⊆ (hostOps0_9_W.map (Proc.devRef (τ := τ) .tc)).toFinset :=
  StableHlo.forall_writes_sub_of_map rfl
/-- The reference each operation of `hostOps0_10` writes, in order. -/
abbrev hostOps0_10_W : List (Ref sig .tc) := [main_v123, main_v124, main_v125, main_v126, main_v127, main_v128, main_cst_16, main_v129, main_v130, main_cst_17, main_v131, main_v132, main_v133, main_v134, main_v135, main_cst_18, main_v136, main_v137, main_cst_19, main_v138, main_v139, main_v140, main_v141, main_cst_20, main_v142, main_v143, main_v144, main_v145, main_v146, main_v147, main_v148, main_v149, main_v150, main_v151, main_v152]
/-- Each operation of `hostOps0_10` writes within that list. -/
theorem hostOps0_10_writes : (hostOps0_10 : List (HloOp τ sig (Elt F))).Forall fun op => op.writes ⊆ (hostOps0_10_W.map (Proc.devRef (τ := τ) .tc)).toFinset :=
  StableHlo.forall_writes_sub_of_map rfl

/-- What the operations after the loop write. -/
abbrev postW : List (Ref sig .tc) := hostOps0_8_W ++ hostOps0_9_W ++ hostOps0_10_W

/-- A buffer that no operation after the loop writes is left as it was. -/
theorem post_keep (V : Valuation τ sig (Elt F)) {r : Ref sig .tc} (hr : r ∉ postW) :
    afterL postI V (Proc.devRef .tc r) = V (Proc.devRef .tc r) := by
  simp only [postW, List.mem_append, not_or] at hr
  simp only [afterL_cons, afterL_nil]
  rw [after_of_writes_sub _ _ hostOps0_10_writes hr.2, after_of_writes_sub _ _ hostOps0_9_writes hr.1.2,
    after_of_writes_sub _ _ hostOps0_8_writes hr.1.1]

/-- A buffer no operation of the program writes ends as it was at the launch. -/
theorem final_keep (c : Dev nD) {r : Ref sig .tc} (h0 : r ∉ preW) (h1 : r ∉ bodyW) (h2 : r ∉ condOps_W) (h3 : r ∉ postW) :
    finalContents condOps preI bodyI postI 256 m c (Proc.devRef .tc r) = launchContents m c (Proc.devRef .tc r) := by
  rw [finalContents, post_keep _ h3, after_of_writes_sub condOps _ condOps_writes h2]
  exact (loop_keep m c h1 h2 256).trans (pre_keep _ h0)

variable (ρ : Dev nD → PrngReg)

/-- The reference's frame, with every buffer at what the fold leaves there: the form the value proof reads. -/
theorem args_kept (c : Dev nD) (mem : (ℓ : Loc nD τ sig) → Buf (Elt F) ℓ)
    (h : ∀ b : Ref sig .tc, (Proc.devRef .tc b : DevRef τ sig).isScoped = false →
      mem ((c.tc : Thread nD τ).loc b) = finalContents condOps preI bodyI postI 256 m c (Proc.devRef .tc b)) :
    mem ((c.tc : Thread nD τ).loc main_arg0) = m ((c.tc : Thread nD τ).loc main_arg0)
    ∧ mem ((c.tc : Thread nD τ).loc main_arg1) = m ((c.tc : Thread nD τ).loc main_arg1)
    ∧ mem ((c.tc : Thread nD τ).loc main_arg2) = m ((c.tc : Thread nD τ).loc main_arg2)
    ∧ mem ((c.tc : Thread nD τ).loc main_arg3) = m ((c.tc : Thread nD τ).loc main_arg3)
    ∧ mem ((c.tc : Thread nD τ).loc main_arg4) = m ((c.tc : Thread nD τ).loc main_arg4)
    ∧ mem ((c.tc : Thread nD τ).loc main_arg5) = m ((c.tc : Thread nD τ).loc main_arg5)
    ∧ mem ((c.tc : Thread nD τ).loc main_arg6) = m ((c.tc : Thread nD τ).loc main_arg6)
    ∧ mem ((c.tc : Thread nD τ).loc main_arg7) = m ((c.tc : Thread nD τ).loc main_arg7)
    ∧ mem ((c.tc : Thread nD τ).loc main_arg8) = m ((c.tc : Thread nD τ).loc main_arg8)
    ∧ mem ((c.tc : Thread nD τ).loc main_arg9) = m ((c.tc : Thread nD τ).loc main_arg9)
    ∧ mem ((c.tc : Thread nD τ).loc main_arg10) = m ((c.tc : Thread nD τ).loc main_arg10)
    ∧ mem ((c.tc : Thread nD τ).loc main_arg11) = m ((c.tc : Thread nD τ).loc main_arg11)
    ∧ mem ((c.tc : Thread nD τ).loc main_arg12) = m ((c.tc : Thread nD τ).loc main_arg12)
    ∧ mem ((c.tc : Thread nD τ).loc main_arg13) = m ((c.tc : Thread nD τ).loc main_arg13)
    ∧ mem ((c.tc : Thread nD τ).loc main_arg14) = m ((c.tc : Thread nD τ).loc main_arg14)
    ∧ mem ((c.tc : Thread nD τ).loc main_arg15) = m ((c.tc : Thread nD τ).loc main_arg15)
    ∧ mem ((c.tc : Thread nD τ).loc main_arg16) = m ((c.tc : Thread nD τ).loc main_arg16) :=
  ⟨(h main_arg0 (by decide)).trans (final_keep m c (by decide +kernel) (by decide +kernel) (by decide +kernel) (by decide +kernel)),
   (h main_arg1 (by decide)).trans (final_keep m c (by decide +kernel) (by decide +kernel) (by decide +kernel) (by decide +kernel)),
   (h main_arg2 (by decide)).trans (final_keep m c (by decide +kernel) (by decide +kernel) (by decide +kernel) (by decide +kernel)),
   (h main_arg3 (by decide)).trans (final_keep m c (by decide +kernel) (by decide +kernel) (by decide +kernel) (by decide +kernel)),
   (h main_arg4 (by decide)).trans (final_keep m c (by decide +kernel) (by decide +kernel) (by decide +kernel) (by decide +kernel)),
   (h main_arg5 (by decide)).trans (final_keep m c (by decide +kernel) (by decide +kernel) (by decide +kernel) (by decide +kernel)),
   (h main_arg6 (by decide)).trans (final_keep m c (by decide +kernel) (by decide +kernel) (by decide +kernel) (by decide +kernel)),
   (h main_arg7 (by decide)).trans (final_keep m c (by decide +kernel) (by decide +kernel) (by decide +kernel) (by decide +kernel)),
   (h main_arg8 (by decide)).trans (final_keep m c (by decide +kernel) (by decide +kernel) (by decide +kernel) (by decide +kernel)),
   (h main_arg9 (by decide)).trans (final_keep m c (by decide +kernel) (by decide +kernel) (by decide +kernel) (by decide +kernel)),
   (h main_arg10 (by decide)).trans (final_keep m c (by decide +kernel) (by decide +kernel) (by decide +kernel) (by decide +kernel)),
   (h main_arg11 (by decide)).trans (final_keep m c (by decide +kernel) (by decide +kernel) (by decide +kernel) (by decide +kernel)),
   (h main_arg12 (by decide)).trans (final_keep m c (by decide +kernel) (by decide +kernel) (by decide +kernel) (by decide +kernel)),
   (h main_arg13 (by decide)).trans (final_keep m c (by decide +kernel) (by decide +kernel) (by decide +kernel) (by decide +kernel)),
   (h main_arg14 (by decide)).trans (final_keep m c (by decide +kernel) (by decide +kernel) (by decide +kernel) (by decide +kernel)),
   (h main_arg15 (by decide)).trans (final_keep m c (by decide +kernel) (by decide +kernel) (by decide +kernel) (by decide +kernel)),
   (h main_arg16 (by decide)).trans (final_keep m c (by decide +kernel) (by decide +kernel) (by decide +kernel) (by decide +kernel))⟩

/-- Every run of the reference ends with its arguments unchanged and every counter at zero. -/
theorem frame : Cert.quiescent_ReferenceIdeal := fun m ρ _ =>
  (θ_run (Cert.ReferenceIdeal.defs (F := Ideal)) _ _).mono (fun r h =>
    ⟨fun c => args_kept m c r.2.mem (h c), Idealize.ShloMosaic.sem_eq_zero_of_no_sems (by decide) r.2⟩)
    (Cert.ReferenceIdeal.Value.run_fold (F := Ideal) m ρ)

end Cert.Proof.Ref
-- ==== Proof.Layer.lean ====
/- What one grid point of the kernel's first call leaves in its three output blocks, as the body's own pure values of
   the point's input blocks. -/
module

public import proofs.«01_k».proof.Proof.Gen.KernelIdeal.Frame
public import Idealize.ShloMosaic.Lib.Pipeline.Value

@[expose] public section

set_option maxRecDepth 65536

noncomputable section

open Idealize.ShloMosaic Idealize.ShloMosaic.TcCoe Idealize.SL.Sem

namespace Cert.Proof.Layer

open Cert.KernelIdeal Cert.KernelIdeal.Gen

variable {F : FTy → Type} [FloatOps F]

/-- A two-axis offset of zeros. -/
theorem hz : (![0, 0] : Fin 2 → Nat) = fun _ => 0 := by
  funext a; fin_cases a <;> rfl

/-- The block of `h` rows the body stores, of the source rows, the memory, the input projection and the output
    projection: the eight heads' contexts, projected, added to the source rows and normalised. -/
def hBlk (x0 : Vec F S128x256 .f32) (x1 : Vec F S2048x256 .f32) (x2 : Vec F S768x256 .f32) (x3 : Vec F S256x256 .f32) : FVec F S128x256 .f32 :=
  k0_pay46 x0 (k0_pay9 x1 x2 (k0_pay3 x0 x2) (k0_pay4 x0 x2) (k0_pay5 x0 x2))
      (k0_pay16 (k0_pay11 (k0_pay3 x0 x2)) (k0_pay12 x1 x2) (k0_pay13 x1 x2 (k0_pay4 x0 x2))
        (k0_pay14 (k0_pay4 x0 x2) (k0_pay5 x0 x2)) k0_pay15)
      (k0_pay17 (k0_pay4 x0 x2) (k0_pay5 x0 x2) (k0_pay6 (k0_pay3 x0 x2)) (k0_pay7 x1 x2) (k0_pay8 x1 x2))
      (k0_pay20 (k0_pay6 (k0_pay3 x0 x2)) (k0_pay7 x1 x2) (k0_pay8 x1 x2) (k0_pay18 (k0_pay4 x0 x2))
        (k0_pay19 (k0_pay5 x0 x2)))
      (k0_pay29 (k0_pay22 (k0_pay6 (k0_pay3 x0 x2))) (k0_pay23 (k0_pay8 x1 x2))
        (k0_pay27 (k0_pay4 x0 x2) (k0_pay5 x0 x2) (k0_pay7 x1 x2))
        (k0_pay28 (k0_pay4 x0 x2) (k0_pay5 x0 x2) (k0_pay7 x1 x2)))
      (k0_pay30 (k0_pay4 x0 x2) (k0_pay5 x0 x2) (k0_pay6 (k0_pay3 x0 x2)) (k0_pay7 x1 x2) (k0_pay8 x1 x2))
      (k0_pay36 (k0_pay32 (k0_pay6 (k0_pay3 x0 x2))) (k0_pay33 (k0_pay8 x1 x2))
        (k0_pay34 (k0_pay4 x0 x2) (k0_pay7 x1 x2)) (k0_pay35 (k0_pay4 x0 x2) (k0_pay5 x0 x2)))
      (k0_pay43 (k0_pay4 x0 x2) (k0_pay5 x0 x2) (k0_pay7 x1 x2))
      (k0_pay44 (k0_pay4 x0 x2) (k0_pay5 x0 x2) (k0_pay7 x1 x2) (k0_pay8 x1 x2))
      (k0_pay45 (k0_pay4 x0 x2) (k0_pay5 x0 x2) (k0_pay6 (k0_pay3 x0 x2)) (k0_pay7 x1 x2)) x3

/-- The feed-forward part over a block of `h` rows: what is normalised last. -/
def ffBlk (h : FVec F S128x256 .f32) (w1 : Vec F S1024x256 .f32) (w2 : Vec F S256x1024 .f32) : FVec F S128x256 .f32 :=
  addf h (matmul dot_S128x1024_S256x1024_S128x256_1_1_0_0_n_n none
    (maximumf (matmul dot_S128x256_S1024x256_S128x1024_1_1_0_0_n_n none h w1 (constant S128x1024 .f32 0x00000000#32))
      (broadcast S128x1024 (Scalar.ofBits .f32 0x00000000#32))) w2 (constant S128x256 .f32 0x00000000#32))

/-- A block of rows less its rows' means. -/
def centred (x : FVec F S128x256 .f32) : FVec F S128x256 .f32 :=
  subf x (broadcastTo S128x256 (divf (shapeCast S128x1 (multiReduction .add [1] S128 x 0x00000000#32 reduces_S128x256_S128 (.inl rfl) rfl) shapeCasts_S128_S128x1)
    (broadcast S128x1 (Scalar.ofBits .f32 0x43800000#32))) broadcasts_S128x1_S128x256)

/-- A centred block of rows divided by its rows' deviations. -/
def scaled (y : FVec F S128x256 .f32) : FVec F S128x256 .f32 := k0_pay1 y (mulf y y)

/-- The block of result rows the body stores. -/
def outBlk (x0 : Vec F S128x256 .f32) (x1 : Vec F S2048x256 .f32) (x2 : Vec F S768x256 .f32) (x3 : Vec F S256x256 .f32)
    (w1 : Vec F S1024x256 .f32) (w2 : Vec F S256x1024 .f32) : FVec F S128x256 .f32 :=
  scaled (centred (ffBlk (hBlk x0 x1 x2 x3) w1 w2))

/-- A whole scratch copied into from a whole array and read back whole is the array. -/
theorem readCov_copied {S : Shape} {e : EltTy} {κ : Kind} {sp : Space} (v : View sig κ sp S e) {off : Fin S.rank → Nat} (h : off = fun _ => 0)
    (inb : ∀ a, off a + S.size a ≤ S.size a) (w : S.Idx → Elt F e) :
    v.readCov [(⟨Rect.whole S, w⟩ : View.Piece (Elt F) S e)] (Rect.unit off S.size inb).toLoadRect = w := by
  subst h
  exact View.readCov_unit_zero v rfl inb w

variable (c : Dev nD) (i : grid0.Coords) (arg1 : Memref sig .tc .vmem S128x256 .f32) (harg1 : arg1.IsWhole) (arg2 : Memref sig .tc .vmem S2048x256 .f32) (harg2 : arg2.IsWhole) (arg3 : Memref sig .tc .vmem S768x256 .f32) (harg3 : arg3.IsWhole) (arg4 : Memref sig .tc .vmem S256x256 .f32) (harg4 : arg4.IsWhole) (arg7 : Memref sig .tc .vmem S128x256 .f32) (harg7 : arg7.IsWhole) (arg8 : Memref sig .tc .vmem S128x256 .f32) (harg8 : arg8.IsWhole) (arg9 : Memref sig .tc .vmem S128x1 .f32) (harg9 : arg9.IsWhole) (arg10 : Memref sig .tc .vmem S1024x256 .f32) (harg10 : arg10.IsWhole) (arg11 : Memref sig .tc .vmem S256x1024 .f32) (harg11 : arg11.IsWhole)
    (x0 : Vec F S128x256 .f32) (x1 : Vec F S2048x256 .f32) (x2 : Vec F S768x256 .f32) (x3 : Vec F S256x256 .f32) (fh0 : HbBuf0 (F := F) c hbM0_0) (fh1 : HbBuf0 (F := F) c hbM0_1)

/-- The surprise block is the body's first stored value of the source rows and the memory. -/
theorem out_surp : out0_A_6 c i arg1 harg1 arg2 harg2 arg3 harg3 arg4 harg4 arg7 harg7 arg8 harg8 arg9 harg9 arg10 harg10 arg11 harg11 x0 x1 x2 x3 fh0 fh1 = k0_pay2 x0 x1 := by
  unfold out0_A_6
  rw [View.read_writes_eq_canon _ _ _ (cover0_A_6 c i arg1 harg1 arg2 harg2 arg3 harg3 arg4 harg4 arg7 harg7 arg8 harg8 arg9 harg9 arg10 harg10 arg11 harg11 x0 x1 x2 x3 fh0 fh1)]
  unfold kernelRun0_A
  dsimp only
  sl_unfold_words
  rw [View.canon_unit_zero (S := S128x1) hz]
  simp only [View.readAt_eq_ld, harg1.read_unread, harg2.read_unread, View.ld_unit_zero (S := S128x256) hz, View.ld_unit_zero (S := S2048x256) hz, shapeCast_self]

/-- The `h` block is `hBlk` of the input blocks. -/
theorem out_h : out0_A_5 c i arg1 harg1 arg2 harg2 arg3 harg3 arg4 harg4 arg7 harg7 arg8 harg8 arg9 harg9 arg10 harg10 arg11 harg11 x0 x1 x2 x3 fh0 fh1 = hBlk x0 x1 x2 x3 := by
  unfold out0_A_5
  rw [View.read_writes_eq_canon _ _ _ (cover0_A_5 c i arg1 harg1 arg2 harg2 arg3 harg3 arg4 harg4 arg7 harg7 arg8 harg8 arg9 harg9 arg10 harg10 arg11 harg11 x0 x1 x2 x3 fh0 fh1)]
  unfold kernelRun0_A
  dsimp only
  sl_unfold_words
  rw [View.canon_unit_zero (S := S128x256) hz]
  simp only [View.readAt_eq_ld, harg1.read_unread, harg2.read_unread, harg3.read_unread, harg4.read_unread, View.ld_unit_zero (S := S128x256) hz, View.ld_unit_zero (S := S2048x256) hz,  View.ld_unit_zero (S := S768x256) hz,  View.ld_unit_zero (S := S256x256) hz, shapeCast_self]
  rfl

/-- The result block is `outBlk` of the input blocks and of the two weight arrays the body copied in. -/
theorem out_out : out0_A_4 c i arg1 harg1 arg2 harg2 arg3 harg3 arg4 harg4 arg7 harg7 arg8 harg8 arg9 harg9 arg10 harg10 arg11 harg11 x0 x1 x2 x3 fh0 fh1 = outBlk x0 x1 x2 x3 fh0 fh1 := by
  unfold out0_A_4
  rw [View.read_writes_eq_canon _ _ _ (cover0_A_4 c i arg1 harg1 arg2 harg2 arg3 harg3 arg4 harg4 arg7 harg7 arg8 harg8 arg9 harg9 arg10 harg10 arg11 harg11 x0 x1 x2 x3 fh0 fh1)]
  unfold kernelRun0_A
  dsimp only
  sl_unfold_words
  rw [View.canon_unit_zero (S := S128x256) hz]
  simp only [View.readAt_eq_ld, harg1.read_unread, harg2.read_unread, harg3.read_unread, harg4.read_unread, View.ld_unit_zero (S := S128x256) hz, View.ld_unit_zero (S := S2048x256) hz,  View.ld_unit_zero (S := S768x256) hz,  View.ld_unit_zero (S := S256x256) hz, shapeCast_self]
  rw [readCov_copied (S := S1024x256) arg10.view hz, readCov_copied (S := S256x1024) arg11.view hz]
  rfl

end Cert.Proof.Layer
-- ==== Proof.Model.lean ====
/- The layer's mathematics row by row over the extended reals: what the kernel computes of one source row, what the
   reference computes of it, and that the two are the same row. -/
module

public import Idealize.ShloMosaic.PureOps.Ideal
public import Idealize.ShloMosaic.Lib.IdealHost

@[expose] public section

noncomputable section

open Idealize.ShloMosaic

namespace Cert.Proof.Model

/-- The words' values: minus infinity, the attention scale, the two guards, the width of a row. -/
abbrev cI : EReal := Ideal.ofBits .f32 0xFF800000#32
abbrev cS : EReal := Ideal.ofBits .f32 0x3E3504F3#32
abbrev cN : EReal := Ideal.ofBits .f32 0x322BCC77#32
abbrev cE : EReal := Ideal.ofBits .f32 0x3727C5AC#32
abbrev cW : EReal := Ideal.ofBits .f32 0x43800000#32

theorem cI_eq : cI = ⊥ := by simp [cI, Ideal.ofBits, Ideal.ieee]
theorem cN_pos : 0 < cN := by
  simp [cN, Ideal.ofBits, Ideal.ieee, -EReal.coe_mul]
theorem cE_pos : 0 < cE := by
  simp [cE, Ideal.ofBits, Ideal.ieee, -EReal.coe_mul]
theorem cW_eq : cW = ((256 : ℝ) : EReal) := by
  simp [cW, Ideal.ofBits, Ideal.ieee, -EReal.coe_mul]
  norm_num
theorem cS_real : ∃ r : ℝ, cS = (r : EReal) := by
  simp only [cS, Ideal.ofBits, Ideal.ieee]
  split_ifs <;> first | exact ⟨_, rfl⟩ | simp_all

/-! ## Extended reals -/

/-- A value that is neither infinity. -/
def Fin' (x : EReal) : Prop := x ≠ ⊤ ∧ x ≠ ⊥

theorem Fin'.coe (r : ℝ) : Fin' (r : EReal) := ⟨EReal.coe_ne_top r, EReal.coe_ne_bot r⟩
theorem Fin'.real {x : EReal} (h : Fin' x) : ∃ r : ℝ, x = (r : EReal) := ⟨x.toReal, (EReal.coe_toReal h.1 h.2).symm⟩
theorem Fin'.mul {x y : EReal} (hx : Fin' x) (hy : Fin' y) : Fin' (x * y) := by
  obtain ⟨a, rfl⟩ := hx.real; obtain ⟨b, rfl⟩ := hy.real
  rw [← EReal.coe_mul]; exact .coe _
theorem Fin'.add {x y : EReal} (hx : Fin' x) (hy : Fin' y) : Fin' (x + y) := by
  obtain ⟨a, rfl⟩ := hx.real; obtain ⟨b, rfl⟩ := hy.real
  rw [← EReal.coe_add]; exact .coe _
theorem Fin'.sum {ι : Type} {s : Finset ι} {f : ι → EReal} (h : ∀ i ∈ s, Fin' (f i)) : Fin' (∑ i ∈ s, f i) := by
  classical
  induction s using Finset.induction_on with
  | empty => simpa using Fin'.coe 0
  | insert a s ha ih =>
    rw [Finset.sum_insert ha]
    exact (h a (Finset.mem_insert_self a s)).add (ih fun i hi => h i (Finset.mem_insert_of_mem hi))

/-- A finite sum times a nonnegative real is the sum of the products. -/
theorem sum_mul' {ι : Type} (s : Finset ι) (f : ι → EReal) {c : EReal} (h0 : 0 ≤ c) (h1 : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 h1, ih]

theorem inv_ok {y : EReal} (h : 0 < y) : 0 ≤ y⁻¹ ∧ y⁻¹ ≠ ⊤ := by
  induction y with
  | bot => exact absurd h (by simp)
  | top => simp
  | coe r =>
    rw [← EReal.coe_inv]
    exact ⟨by exact_mod_cast (inv_pos.mpr (by exact_mod_cast h)).le, EReal.coe_ne_top _⟩

theorem div_pos' {x y : EReal} (h : 0 < y) : Ideal.div x y = x * y⁻¹ := by
  rw [Ideal.div, if_neg h.ne']

theorem sqrt_zero_iff {x : EReal} (h : 0 ≤ x) : Ideal.sqrt x = 0 ↔ x = 0 := by
  induction x with
  | bot => simp
  | top => simp
  | coe r =>
    have hr : 0 ≤ r := by exact_mod_cast h
    rw [Ideal.sqrt_coe, if_neg (not_lt.mpr hr)]
    norm_cast
    exact Real.sqrt_eq_zero hr

theorem sq_nonneg (x : EReal) : 0 ≤ x * x := by
  induction x with
  | bot => simp
  | top => simp
  | coe r => exact_mod_cast mul_self_nonneg r

theorem exp_nonneg (x : EReal) : 0 ≤ Ideal.exp x := by
  induction x with
  | bot => simp
  | top => simp
  | coe r => rw [Ideal.exp_coe]; exact_mod_cast (Real.exp_pos r).le

theorem exp_pos {x : EReal} (h : Fin' x) : 0 < Ideal.exp x := by
  obtain ⟨r, rfl⟩ := h.real
  rw [Ideal.exp_coe]; exact_mod_cast Real.exp_pos r

/-- Dividing by a root is multiplying by the inverse root, of a positive value. -/
theorem div_sqrt (x : EReal) {v : EReal} (h : 0 < v) : Ideal.div x (Ideal.sqrt v) = x * Ideal.rsqrt v := by
  induction v with
  | bot => exact absurd h (by simp)
  | top => simp [Ideal.div]
  | coe r =>
    have hr : 0 < r := by exact_mod_cast h
    rw [Ideal.sqrt_coe, Ideal.rsqrt_coe, if_neg (not_lt.mpr hr.le), if_neg (not_lt.mpr hr.le), if_neg hr.ne',
      div_pos' (by exact_mod_cast Real.sqrt_pos.mpr hr), ← EReal.coe_inv]

/-! ## The surprise of a row -/

/-- The kernel's surprise of a row `x` to the memory `m`: similarities divided after the product. -/
def surpK (m : Fin 2048 → Fin 256 → EReal) (x : Fin 256 → EReal) : EReal :=
  if ∑ j, ∑ k, m j k * m j k = 0 then 1
  else 1 - Finset.fold max cI (fun j => Ideal.div
    (∑ k, Ideal.div (x k) (max (Ideal.sqrt (∑ k, x k * x k)) cN) * m j k)
    (max (Ideal.sqrt (∑ k, m j k * m j k)) cN)) Finset.univ

/-- The reference's surprise: the memory's rows divided before the product. -/
def surpR (m : Fin 2048 → Fin 256 → EReal) (x : Fin 256 → EReal) : EReal :=
  if Ideal.sqrt (∑ j, ∑ k, m j k * m j k) = 0 then 1
  else 1 - Finset.fold max cI (fun j =>
    ∑ k, Ideal.div (x k) (max (Ideal.sqrt (∑ k, x k * x k)) cN) *
      Ideal.div (m j k) (max (Ideal.sqrt (∑ k, m j k * m j k)) cN)) Finset.univ

/-- The two surprises are one. -/
theorem surp_eq (m : Fin 2048 → Fin 256 → EReal) (x : Fin 256 → EReal) : surpR m x = surpK m x := by
  unfold surpR surpK
  have h0 : (0 : EReal) ≤ ∑ j, ∑ k, m j k * m j k :=
    Finset.sum_nonneg fun j _ => Finset.sum_nonneg fun k _ => sq_nonneg _
  simp only [sqrt_zero_iff h0]
  congr 3
  funext j
  have hp : (0 : EReal) < max (Ideal.sqrt (∑ k, m j k * m j k)) cN := lt_max_of_lt_right cN_pos
  rw [div_pos' hp, sum_mul' _ _ (inv_ok hp).1 (inv_ok hp).2]
  refine Finset.sum_congr rfl fun k _ => ?_
  rw [div_pos' hp, mul_assoc]

/-! ## A head's context -/

/-- The kernel's context entry of one head: the weighted sum divided by the weights' sum last. -/
def ctxK (lm : Fin 2048 → EReal) (ls : EReal) (v : Fin 2048 → EReal) (vs : EReal) : EReal :=
  Ideal.div
    (∑ j, Ideal.exp (lm j - max (Finset.fold max cI lm Finset.univ) ls) * v j
      + Ideal.exp (ls - max (Finset.fold max cI lm Finset.univ) ls) * vs)
    (∑ j, Ideal.exp (lm j - max (Finset.fold max cI lm Finset.univ) ls)
      + Ideal.exp (ls - max (Finset.fold max cI lm Finset.univ) ls))

/-- The reference's: the weights of all 2049 logits divided first. -/
def ctxR (lg : Fin 2049 → EReal) (v : Fin 2048 → EReal) (vs : EReal) : EReal :=
  ∑ j : Fin 2048, v j * Ideal.div (Ideal.exp (lg j.castSucc - max cI (Finset.fold max cI lg Finset.univ)))
      (∑ i, Ideal.exp (lg i - max cI (Finset.fold max cI lg Finset.univ)))
    + Ideal.div (Ideal.exp (lg (Fin.last 2048) - max cI (Finset.fold max cI lg Finset.univ)))
      (∑ i, Ideal.exp (lg i - max cI (Finset.fold max cI lg Finset.univ))) * vs

/-- The largest of all the logits is the larger of the memory's largest and the row's own. -/
theorem max_logits (lg : Fin 2049 → EReal) :
    max cI (Finset.fold max cI lg Finset.univ)
      = max (Finset.fold max cI (fun j : Fin 2048 => lg j.castSucc) Finset.univ) (lg (Fin.last 2048)) := by
  refine eq_of_forall_ge_iff fun c => ?_
  have e : (∀ i : Fin (2048 + 1), lg i ≤ c) ↔ (∀ i : Fin 2048, lg i.castSucc ≤ c) ∧ lg (Fin.last 2048) ≤ c := Fin.forall_fin_succ'
  rw [max_le_iff, max_le_iff, Finset.fold_max_le, Finset.fold_max_le]
  constructor
  · rintro ⟨h0, -, h⟩
    exact ⟨⟨h0, fun i _ => h _ (Finset.mem_univ _)⟩, h _ (Finset.mem_univ _)⟩
  · rintro ⟨⟨h0, h⟩, hl⟩
    exact ⟨h0, h0, fun i _ => e.mpr ⟨fun i => h i (Finset.mem_univ _), hl⟩ i⟩

/-- A largest of finite logits is finite. -/
theorem max_fin (lm : Fin 2048 → EReal) (ls : EReal) (hm : ∀ j, Fin' (lm j)) (hs : Fin' ls) :
    Fin' (max (Finset.fold max cI lm Finset.univ) ls) := by
  constructor
  · refine (max_lt ?_ (lt_top_iff_ne_top.mpr hs.1)).ne
    rw [Finset.fold_max_lt]
    exact ⟨by rw [cI_eq]; exact bot_lt_top, fun j _ => lt_top_iff_ne_top.mpr (hm j).1⟩
  · exact (lt_max_of_lt_right (bot_lt_iff_ne_bot.mpr hs.2)).ne'

theorem Fin'.sub {x y : EReal} (hx : Fin' x) (hy : Fin' y) : Fin' (x - y) := by
  obtain ⟨a, rfl⟩ := hx.real; obtain ⟨b, rfl⟩ := hy.real
  rw [← EReal.coe_sub]; exact .coe _

/-- The two contexts are one where the logits are finite. -/
theorem ctx_eq (lg : Fin 2049 → EReal) (v : Fin 2048 → EReal) (vs : EReal) (hl : ∀ i, Fin' (lg i)) :
    ctxR lg v vs = ctxK (fun j => lg j.castSucc) (lg (Fin.last 2048)) v vs := by
  unfold ctxR ctxK
  rw [max_logits]
  generalize hmx : max (Finset.fold max cI (fun j : Fin 2048 => lg j.castSucc) Finset.univ) (lg (Fin.last 2048)) = mx
  have hmf : Fin' mx := hmx ▸ max_fin _ _ (fun j => hl _) (hl _)
  have e : ∑ i : Fin 2049, Ideal.exp (lg i - mx)
      = ∑ j : Fin 2048, Ideal.exp (lg j.castSucc - mx) + Ideal.exp (lg (Fin.last 2048) - mx) :=
    Fin.sum_univ_castSucc (n := 2048) fun i => Ideal.exp (lg i - mx)
  rw [e]
  generalize hd : (∑ j : Fin 2048, Ideal.exp (lg j.castSucc - mx) + Ideal.exp (lg (Fin.last 2048) - mx)) = d
  have hp : 0 < d := by
    rw [← hd]
    exact lt_of_lt_of_le (exp_pos ((hl _).sub hmf)) (le_add_of_nonneg_left (Finset.sum_nonneg fun j _ => exp_nonneg _))
  simp only [div_pos' hp]
  rw [EReal.right_distrib_of_nonneg_of_ne_top (inv_ok hp).1 (inv_ok hp).2, sum_mul' _ _ (inv_ok hp).1 (inv_ok hp).2]
  congr 1
  · refine Finset.sum_congr rfl fun j _ => ?_
    rw [mul_comm (v j), mul_right_comm]
  · rw [mul_right_comm]

/-! ## Normalising a row -/

/-- A row's mean and the mean of its centred squares. -/
def mean (x : Fin 256 → EReal) : EReal := Ideal.div (∑ l, x l) cW
def var (x : Fin 256 → EReal) : EReal := Ideal.div (∑ l, (x l - mean x) * (x l - mean x)) cW

/-- The kernel's normalised row. -/
def lnK (x : Fin 256 → EReal) (l : Fin 256) : EReal := (x l - mean x) * Ideal.rsqrt (var x + cE)

/-- The reference's normalised row. -/
def lnR (x : Fin 256 → EReal) (l : Fin 256) : EReal := Ideal.div (x l - mean x) (Ideal.sqrt (var x + cE))

theorem cW_pos : 0 < cW := by rw [cW_eq]; exact_mod_cast (by norm_num : (0 : ℝ) < 256)

theorem var_nonneg (x : Fin 256 → EReal) : 0 ≤ var x := by
  unfold var
  rw [div_pos' cW_pos]
  exact mul_nonneg (Finset.sum_nonneg fun l _ => sq_nonneg _) (inv_ok cW_pos).1

/-- The two normalised rows are one. -/
theorem ln_eq (x : Fin 256 → EReal) : lnR x = lnK x := by
  funext l
  exact div_sqrt _ (lt_of_lt_of_le cE_pos (le_add_of_nonneg_left (var_nonneg x)))

theorem inf_add_left {x y : EReal} (h : ¬ Fin' x) : ¬ Fin' (x + y) := by
  induction x with
  | bot => rw [EReal.bot_add]; exact fun h => h.2 rfl
  | coe r => exact absurd (Fin'.coe r) h
  | top =>
    by_cases hy : y = ⊥
    · rw [hy, EReal.add_bot]; exact fun h => h.2 rfl
    · rw [EReal.top_add_of_ne_bot hy]; exact fun h => h.1 rfl

theorem inf_sum {ι : Type} {s : Finset ι} {f : ι → EReal} {i : ι} (hi : i ∈ s) (h : ¬ Fin' (f i)) : ¬ Fin' (∑ i ∈ s, f i) := by
  classical
  rw [← Finset.add_sum_erase s f hi]
  exact inf_add_left h

theorem not_fin {x : EReal} (h : ¬ Fin' x) : x = ⊤ ∨ x = ⊥ := by
  by_contra hc
  exact h ⟨fun e => hc (.inl e), fun e => hc (.inr e)⟩

theorem inf_mul_pos {x y : EReal} (h : ¬ Fin' x) {r : ℝ} (hr : 0 < r) (hy : y = (r : EReal)) : ¬ Fin' (x * y) := by
  subst hy
  rcases not_fin h with rfl | rfl
  · rw [EReal.top_mul_coe_of_pos hr]; exact fun h => h.1 rfl
  · rw [EReal.bot_mul_coe_of_pos hr]; exact fun h => h.2 rfl

/-- A row with an infinite entry normalises to zeros. -/
theorem ln_inf (x : Fin 256 → EReal) {k : Fin 256} (h : ¬ Fin' (x k)) (l : Fin 256) : lnK x l = 0 := by
  have hw : cW⁻¹ = (((256 : ℝ)⁻¹ : ℝ) : EReal) := by rw [cW_eq, EReal.coe_inv]
  have hm : ¬ Fin' (mean x) := by
    unfold mean
    rw [div_pos' cW_pos]
    exact inf_mul_pos (inf_sum (Finset.mem_univ k) h) (by norm_num) hw
  have hc : ¬ Fin' (x l - mean x) := by
    rw [sub_eq_add_neg, add_comm]
    refine inf_add_left fun hf => hm ?_
    obtain ⟨r, hr⟩ := hf.real
    rw [← neg_neg (mean x), hr, ← EReal.coe_neg]; exact .coe _
  have hq : (x l - mean x) * (x l - mean x) = ⊤ := by
    rcases not_fin hc with h | h <;> rw [h] <;> simp
  have hv : var x = ⊤ := by
    have hs : ∑ l, (x l - mean x) * (x l - mean x) = ⊤ := by
      refine top_le_iff.mp ?_
      rw [← hq]
      exact Finset.single_le_sum (f := fun l => (x l - mean x) * (x l - mean x)) (fun i _ => sq_nonneg _) (Finset.mem_univ l)
    unfold var
    rw [div_pos' cW_pos, hs, hw, EReal.top_mul_coe_of_pos (by norm_num)]
  unfold lnK
  rw [hv, EReal.top_add_of_ne_bot (ne_of_gt (lt_of_le_of_lt bot_le cE_pos)), Ideal.rsqrt_top, mul_zero]

/-! ## The rows of the layer -/

/-- Column `d` of head `h`. -/
def col (h : Fin 8) (d : Fin 32) : Fin 256 := ⟨32 * h.val + d.val, by omega⟩

/-- The query, key and value weights of the projection. -/
def wq (w : Fin 768 → Fin 256 → EReal) (l : Fin 256) : Fin 256 → EReal := w ⟨l.val, by omega⟩
def wk (w : Fin 768 → Fin 256 → EReal) (l : Fin 256) : Fin 256 → EReal := w ⟨256 + l.val, by omega⟩
def wv (w : Fin 768 → Fin 256 → EReal) (l : Fin 256) : Fin 256 → EReal := w ⟨512 + l.val, by omega⟩

/-- The product of two rows. -/
def dot (x y : Fin 256 → EReal) : EReal := ∑ k, x k * y k

/-- A row's logit to another: the head's scaled product of its query and the other's key. -/
def logit (w : Fin 768 → Fin 256 → EReal) (x y : Fin 256 → EReal) (h : Fin 8) : EReal :=
  (∑ d, dot x (wq w (col h d)) * dot y (wk w (col h d))) * cS

/-- A row's logits to the memory's rows and, last, to itself. -/
def logits (m : Fin 2048 → Fin 256 → EReal) (w : Fin 768 → Fin 256 → EReal) (x : Fin 256 → EReal) (h : Fin 8) (i : Fin 2049) : EReal :=
  if hi : i.val < 2048 then logit w x (m ⟨i.val, hi⟩) h else logit w x x h

/-- The contexts of a row, the kernel's and the reference's. -/
def cxK (m : Fin 2048 → Fin 256 → EReal) (w : Fin 768 → Fin 256 → EReal) (x : Fin 256 → EReal) (h : Fin 8) (d : Fin 32) : EReal :=
  ctxK (fun j => logit w x (m j) h) (logit w x x h) (fun j => dot (m j) (wv w (col h d))) (dot x (wv w (col h d)))
def cxR (m : Fin 2048 → Fin 256 → EReal) (w : Fin 768 → Fin 256 → EReal) (x : Fin 256 → EReal) (h : Fin 8) (d : Fin 32) : EReal :=
  ctxR (logits m w x h) (fun j => dot (m j) (wv w (col h d))) (dot x (wv w (col h d)))

/-- The head and the head's column of a column. -/
def hd (k : Fin 256) : Fin 8 := ⟨k.val / 32, by omega⟩
def hc (k : Fin 256) : Fin 32 := ⟨k.val % 32, by omega⟩

/-- The `h` row of a source row. -/
def hK (m : Fin 2048 → Fin 256 → EReal) (w : Fin 768 → Fin 256 → EReal) (o : Fin 256 → Fin 256 → EReal) (x : Fin 256 → EReal) : Fin 256 → EReal :=
  lnK fun l => x l + ∑ k, cxK m w x (hd k) (hc k) * o l k
def hR (m : Fin 2048 → Fin 256 → EReal) (w : Fin 768 → Fin 256 → EReal) (o : Fin 256 → Fin 256 → EReal) (x : Fin 256 → EReal) : Fin 256 → EReal :=
  lnR fun l => x l + ∑ k, cxR m w x (hd k) (hc k) * o l k

theorem dot_fin {x y : Fin 256 → EReal} (hx : ∀ k, Fin' (x k)) (hy : ∀ k, Fin' (y k)) : Fin' (dot x y) :=
  .sum fun k _ => (hx k).mul (hy k)

theorem logit_fin {w : Fin 768 → Fin 256 → EReal} {x y : Fin 256 → EReal} (hw : ∀ i k, i.val < 512 → Fin' (w i k)) (hx : ∀ k, Fin' (x k))
    (hy : ∀ k, Fin' (y k)) (h : Fin 8) : Fin' (logit w x y h) := by
  obtain ⟨r, hr⟩ := cS_real
  refine (Fin'.sum fun d _ => (dot_fin hx fun k => hw _ k ?_).mul (dot_fin hy fun k => hw _ k ?_)).mul (hr ▸ .coe r)
  · have := (col h d).isLt; dsimp only; omega
  · have := (col h d).isLt; dsimp only; omega

/-- The contexts of a finite row are one. -/
theorem cx_eq {m : Fin 2048 → Fin 256 → EReal} {w : Fin 768 → Fin 256 → EReal} {x : Fin 256 → EReal} (hm : ∀ i k, Fin' (m i k))
    (hw : ∀ i k, i.val < 512 → Fin' (w i k)) (hx : ∀ k, Fin' (x k)) (h : Fin 8) (d : Fin 32) : cxR m w x h d = cxK m w x h d := by
  unfold cxR cxK
  rw [ctx_eq]
  · congr 1
    funext j; simp [logits]
  · intro i
    unfold logits
    split
    · exact logit_fin hw hx (hm _) h
    · exact logit_fin hw hx hx h

/-- The `h` rows are one, of any source row, where the memory and the query and key weights are finite. -/
theorem h_eq {m : Fin 2048 → Fin 256 → EReal} {w : Fin 768 → Fin 256 → EReal} (o : Fin 256 → Fin 256 → EReal) (x : Fin 256 → EReal)
    (hm : ∀ i k, Fin' (m i k)) (hw : ∀ i k, i.val < 512 → Fin' (w i k)) : hR m w o x = hK m w o x := by
  unfold hR hK
  rw [ln_eq]
  by_cases hx : ∀ k, Fin' (x k)
  · simp only [cx_eq hm hw hx]
  · obtain ⟨k, hk⟩ := not_forall.mp hx
    funext l
    rw [ln_inf _ (k := k) (inf_add_left hk), ln_inf _ (k := k) (inf_add_left hk)]

/-- The row that is normalised last: an `h` row and its feed-forward row. -/
def ff (w1 : Fin 1024 → Fin 256 → EReal) (w2 : Fin 256 → Fin 1024 → EReal) (h : Fin 256 → EReal) (l : Fin 256) : EReal :=
  h l + ∑ k, max (dot h (w1 k)) 0 * w2 l k

end Cert.Proof.Model

end
-- ==== Proof.Heads.lean ====
/- The first call's eight heads at an index: each stored part is the same context entry at its own head. -/
module

public import proofs.«01_k».proof.Proof.Layer
public import proofs.«01_k».proof.Proof.Model
public import Idealize.ShloMosaic.Lib.Pointwise

@[expose] public section

set_option maxRecDepth 65536

noncomputable section

open Idealize.ShloMosaic Idealize.ShloMosaic.TcCoe Idealize.SL.Sem Idealize.ShloMosaic.Pointwise

namespace Cert.Proof.Heads

open Cert.KernelIdeal Cert.KernelIdeal.Gen Cert.Proof.Layer Cert.Proof.Model

/-- One head's context entry, of the rows' queries, keys and values and the memory's keys and values. -/
def hctx (q ks vs : FVec Ideal S128x256 .f32) (km vm : FVec Ideal S2048x256 .f32) (h : Fin 8) (r : Fin 128) (l : Fin 32) : EReal :=
  ctxK (fun j => (∑ d, q (ix2 r (col h d)) * km (ix2 j (col h d))) * cS)
    ((∑ d, q (ix2 r (col h d)) * ks (ix2 r (col h d))) * cS)
    (fun j => vm (ix2 j (col h l))) (vs (ix2 r (col h l)))

section heads

variable (x1 : Vec Ideal S2048x256 .f32) (x2 : Vec Ideal S768x256 .f32) (z : FVec Ideal S128x768 .f32)
  (q ks vs : FVec Ideal S128x256 .f32) (km vm : FVec Ideal S2048x256 .f32) (r : Fin 128) (l : Fin 32)

/-- Head 0's stored contexts. -/
theorem head0 : k0_pay9 x1 x2 z q ks (ix2 r l) = hctx q ks (k0_pay6 z) (k0_pay7 x1 x2) (k0_pay8 x1 x2) 0 r l := by
  pointwise [k0_pay9]
  simp [hctx, ctxK, col]

/-- Head 1's. -/
theorem head1 : k0_pay16 (k0_pay11 z) (k0_pay12 x1 x2) (k0_pay13 x1 x2 q) (k0_pay14 q ks) k0_pay15 (ix2 r l)
    = hctx q ks (k0_pay6 z) (k0_pay7 x1 x2) (k0_pay8 x1 x2) 1 r l := by
  pointwise [k0_pay16, k0_pay10, k0_pay11, k0_pay12, k0_pay13, k0_pay14, k0_pay15]
  rfl

/-- Head 2's. -/
theorem head2 : k0_pay17 q ks vs km vm (ix2 r l) = hctx q ks vs km vm 2 r l := by
  pointwise [k0_pay17]
  rfl

/-- Head 3's. -/
theorem head3 : k0_pay20 vs km vm (k0_pay18 q) (k0_pay19 ks) (ix2 r l) = hctx q ks vs km vm 3 r l := by
  pointwise [k0_pay20, k0_pay18, k0_pay19]
  rfl

/-- Head 4's. -/
theorem head4 : k0_pay29 (k0_pay22 vs) (k0_pay23 vm) (k0_pay27 q ks km) (k0_pay28 q ks km) (ix2 r l) = hctx q ks vs km vm 4 r l := by
  pointwise [k0_pay29, k0_pay21, k0_pay22, k0_pay23, k0_pay24, k0_pay25, k0_pay26, k0_pay27, k0_pay28]
  rfl

/-- Head 5's. -/
theorem head5 : k0_pay30 q ks vs km vm (ix2 r l) = hctx q ks vs km vm 5 r l := by
  pointwise [k0_pay30]
  rfl

/-- Head 6's. -/
theorem head6 : k0_pay36 (k0_pay32 vs) (k0_pay33 vm) (k0_pay34 q km) (k0_pay35 q ks) (ix2 r l) = hctx q ks vs km vm 6 r l := by
  pointwise [k0_pay36, k0_pay31, k0_pay32, k0_pay33, k0_pay34, k0_pay35]
  rfl

/-- Head 7's, whose quotient the next value takes. -/
theorem head7 : Ideal.div (k0_pay44 q ks km vm (ix2 r l) + k0_pay45 q ks vs km (ix2 r l)) (k0_pay43 q ks km (ix2 r (0 : Fin 1)))
    = hctx q ks vs km vm 7 r l := by
  pointwise [k0_pay37, k0_pay38, k0_pay39, k0_pay40, k0_pay41, k0_pay42, k0_pay43, k0_pay44, k0_pay45]
  rfl

end heads

end Cert.Proof.Heads

end
-- ==== Proof.LayerAt.lean ====
/- The first call's blocks at an index: each is the layer's row of the block's source row. -/
module

public import proofs.«01_k».proof.Proof.Heads

@[expose] public section

set_option maxRecDepth 65536

noncomputable section

open Idealize.ShloMosaic Idealize.ShloMosaic.TcCoe Idealize.SL.Sem Idealize.ShloMosaic.Pointwise

namespace Cert.Proof.LayerAt

open Cert.KernelIdeal Cert.KernelIdeal.Gen Cert.Proof.Layer Cert.Proof.Model Cert.Proof.Heads

/-- A column is its head's first column and its place in the head. -/
theorem pick (g : Fin 8 → Fin 32 → EReal) (k : Fin 256) (i : Fin 8) (d : Fin 32) (h : k.val = 32 * i.val + d.val) : g i d = g (hd k) (hc k) := by
  have h1 : i = hd k := Fin.ext (by simp only [hd]; omega)
  have h2 : d = hc k := Fin.ext (by simp only [hc]; omega)
  rw [← h1, ← h2]

/-- The eight heads' contexts side by side. -/
theorem side_by_side (a0 a1 a2 a3 a4 a5 a6 a7 : FVec Ideal S128x32 .f32) (r : Fin 128) (k : Fin 256) (g : Fin 8 → Fin 32 → EReal)
    (h0 : ∀ d, a0 (ix2 r d) = g 0 d) (h1 : ∀ d, a1 (ix2 r d) = g 1 d) (h2 : ∀ d, a2 (ix2 r d) = g 2 d) (h3 : ∀ d, a3 (ix2 r d) = g 3 d)
    (h4 : ∀ d, a4 (ix2 r d) = g 4 d) (h5 : ∀ d, a5 (ix2 r d) = g 5 d) (h6 : ∀ d, a6 (ix2 r d) = g 6 d) (h7 : ∀ d, a7 (ix2 r d) = g 7 d) :
    (concatenate S128x256 1 [⟨S128x32, a0⟩, ⟨S128x32, a1⟩, ⟨S128x32, a2⟩, ⟨S128x32, a3⟩, ⟨S128x32, a4⟩, ⟨S128x32, a5⟩, ⟨S128x32, a6⟩, ⟨S128x32, a7⟩]
      concatenates_S128x32_S128x32_S128x32_S128x32_S128x32_S128x32_S128x32_S128x32_S128x256_d1 : FVec Ideal S128x256 .f32) (ix2 r k) = g (hd k) (hc k) := by
  have hk := k.isLt
  pointwise
  simp only [h0, h1, h2, h3, h4, h5, h6, h7]
  split_ifs <;> exact pick g k _ _ (by first | (simp; done) | (simp; omega))

/-- A block's normalised rows. -/
theorem norm_at (x : FVec Ideal S128x256 .f32) (r : Fin 128) (l : Fin 256) : scaled (centred x) (ix2 r l) = lnK (fun l => x (ix2 r l)) l := by
  pointwise [scaled, centred, k0_pay1]
  rfl

/-- The block of surprises. -/
theorem surp_at (x0 : Vec Ideal S128x256 .f32) (x1 : Vec Ideal S2048x256 .f32) (r : Fin 128) (l : Fin 1) :
    k0_pay2 x0 x1 (ix2 r l) = surpK (fun j k => x1 (ix2 j k)) (fun k => x0 (ix2 r k)) := by
  pointwise [k0_pay2]
  rfl

section proj

variable (x0 : Vec Ideal S128x256 .f32) (x1 : Vec Ideal S2048x256 .f32) (x2 : Vec Ideal S768x256 .f32) (r : Fin 128) (j : Fin 2048) (l : Fin 256)

/-- A row's queries. -/
theorem q_at : k0_pay4 x0 x2 (ix2 r l) = dot (fun k => x0 (ix2 r k)) (wq (fun i k => x2 (ix2 i k)) l) := by
  pointwise [k0_pay4, k0_pay3]
  rfl

/-- A row's keys. -/
theorem ks_at : k0_pay5 x0 x2 (ix2 r l) = dot (fun k => x0 (ix2 r k)) (wk (fun i k => x2 (ix2 i k)) l) := by
  pointwise [k0_pay5, k0_pay3]
  rfl

/-- A row's values. -/
theorem vs_at : k0_pay6 (k0_pay3 x0 x2) (ix2 r l) = dot (fun k => x0 (ix2 r k)) (wv (fun i k => x2 (ix2 i k)) l) := by
  pointwise [k0_pay6, k0_pay3]
  rfl

/-- A memory row's keys. -/
theorem km_at : k0_pay7 x1 x2 (ix2 j l) = dot (fun k => x1 (ix2 j k)) (wk (fun i k => x2 (ix2 i k)) l) := by
  pointwise [k0_pay7]
  rfl

/-- A memory row's values. -/
theorem vm_at : k0_pay8 x1 x2 (ix2 j l) = dot (fun k => x1 (ix2 j k)) (wv (fun i k => x2 (ix2 i k)) l) := by
  pointwise [k0_pay8]
  rfl

/-- A head's context entry is the row's. -/
theorem hctx_at (h : Fin 8) (d : Fin 32) :
    hctx (k0_pay4 x0 x2) (k0_pay5 x0 x2) (k0_pay6 (k0_pay3 x0 x2)) (k0_pay7 x1 x2) (k0_pay8 x1 x2) h r d
      = cxK (fun i k => x1 (ix2 i k)) (fun i k => x2 (ix2 i k)) (fun k => x0 (ix2 r k)) h d := by
  unfold hctx cxK logit
  simp only [q_at, ks_at, vs_at, km_at, vm_at]

end proj

/-- The source rows and the projected contexts. -/
def attnBlk (x0 : FVec Ideal S128x256 .f32) (a : FVec Ideal S128x256 .f32) (x3 : FVec Ideal S256x256 .f32) : FVec Ideal S128x256 .f32 :=
  addf x0 (matmul dot_S128x256_S256x256_S128x256_1_1_0_0_n_n none a x3 (constant S128x256 .f32 0x00000000#32))

theorem attn_at (x0 : Vec Ideal S128x256 .f32) (a : FVec Ideal S128x256 .f32) (x3 : Vec Ideal S256x256 .f32) (r : Fin 128) (l : Fin 256) :
    attnBlk x0 a x3 (ix2 r l) = x0 (ix2 r l) + ∑ k, a (ix2 r k) * x3 (ix2 l k) := by
  pointwise [attnBlk]

/-- The stored block of `h` rows is the source rows and the projected contexts, normalised. -/
theorem pay46_eq (x0 : Vec Ideal S128x256 .f32) (a0 a1 a2 a3 a4 a5 a6 v275 v277 : FVec Ideal S128x32 .f32) (v274 : FVec Ideal S128x1 .f32)
    (x3 : Vec Ideal S256x256 .f32) : k0_pay46 x0 a0 a1 a2 a3 a4 a5 a6 v274 v275 v277 x3 = scaled (centred (attnBlk x0
      (concatenate S128x256 1 [⟨S128x32, a0⟩, ⟨S128x32, a1⟩, ⟨S128x32, a2⟩, ⟨S128x32, a3⟩, ⟨S128x32, a4⟩, ⟨S128x32, a5⟩, ⟨S128x32, a6⟩,
        ⟨S128x32, divf (addf v275 v277) (broadcastTo S128x32 v274 broadcasts_S128x1_S128x32)⟩]
        concatenates_S128x32_S128x32_S128x32_S128x32_S128x32_S128x32_S128x32_S128x32_S128x256_d1) x3)) := rfl

/-- The block of `h` rows. -/
theorem h_at (x0 : Vec Ideal S128x256 .f32) (x1 : Vec Ideal S2048x256 .f32) (x2 : Vec Ideal S768x256 .f32) (x3 : Vec Ideal S256x256 .f32)
    (r : Fin 128) (l : Fin 256) : hBlk x0 x1 x2 x3 (ix2 r l)
      = hK (fun i k => x1 (ix2 i k)) (fun i k => x2 (ix2 i k)) (fun i k => x3 (ix2 i k)) (fun k => x0 (ix2 r k)) l := by
  unfold hBlk
  rw [pay46_eq, norm_at]
  simp only [attn_at]
  unfold hK
  congr 1
  funext l
  congr 1
  refine Finset.sum_congr rfl fun k _ => ?_
  congr 1
  refine side_by_side _ _ _ _ _ _ _ _ r k (fun h d => cxK (fun i k => x1 (ix2 i k)) (fun i k => x2 (ix2 i k)) (fun k => x0 (ix2 r k)) h d)
    ?_ ?_ ?_ ?_ ?_ ?_ ?_ ?_ <;> intro d
  · rw [head0, hctx_at]
  · rw [head1, hctx_at]
  · rw [head2, hctx_at]
  · rw [head3, hctx_at]
  · rw [head4, hctx_at]
  · rw [head5, hctx_at]
  · rw [head6, hctx_at]
  · refine Eq.trans ?_ ((head7 _ _ _ _ _ r d).trans (hctx_at _ _ _ _ _ _))
    pointwise

/-- The feed-forward block. -/
theorem ff_at (h : FVec Ideal S128x256 .f32) (w1 : Vec Ideal S1024x256 .f32) (w2 : Vec Ideal S256x1024 .f32) (r : Fin 128) (l : Fin 256) :
    ffBlk h w1 w2 (ix2 r l) = ff (fun i k => w1 (ix2 i k)) (fun i k => w2 (ix2 i k)) (fun k => h (ix2 r k)) l := by
  pointwise [ffBlk]
  rfl

/-- The block of result rows. -/
theorem out_at (x0 : Vec Ideal S128x256 .f32) (x1 : Vec Ideal S2048x256 .f32) (x2 : Vec Ideal S768x256 .f32) (x3 : Vec Ideal S256x256 .f32)
    (w1 : Vec Ideal S1024x256 .f32) (w2 : Vec Ideal S256x1024 .f32) (r : Fin 128) (l : Fin 256) : outBlk x0 x1 x2 x3 w1 w2 (ix2 r l)
      = lnK (ff (fun i k => w1 (ix2 i k)) (fun i k => w2 (ix2 i k))
          (hK (fun i k => x1 (ix2 i k)) (fun i k => x2 (ix2 i k)) (fun i k => x3 (ix2 i k)) (fun k => x0 (ix2 r k)))) l := by
  unfold outBlk
  rw [norm_at]
  simp only [ff_at, h_at]

end Cert.Proof.LayerAt

end
-- ==== Proof.Scatter.lean ====
/- What one grid point of the kernel's second call leaves in its three output blocks, as the body's own pure values of
   the point's input blocks: the second point copies, the first also rewrites the first 256 slots. -/
module

public import proofs.«01_k».proof.Proof.Layer

@[expose] public section

set_option maxRecDepth 65536

noncomputable section

open Idealize.ShloMosaic Idealize.ShloMosaic.TcCoe Idealize.SL.Sem

namespace Cert.Proof.Scatter

open Cert.KernelIdeal Cert.KernelIdeal.Gen Cert.Proof.Layer

variable {F : FTy → Type} [FloatOps F]

variable (c : Dev nD) (i : grid1.Coords) (arg1 : Memref sig .tc .vmem S256x256 .f32) (harg1 : arg1.IsWhole) (arg2 : Memref sig .tc .vmem S256x1 .f32) (harg2 : arg2.IsWhole) (arg3 : Memref sig .tc .vmem S1024x256 .f32) (harg3 : arg3.IsWhole) (arg4 : Memref sig .tc .vmem S8x128 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S8x128 .f32) (harg7 : arg7.IsWhole)
    (x0 : Vec F S256x256 .f32) (x1 : Vec F S256x1 .f32) (x2 : Vec F S1024x256 .f32) (x3 : Vec F S8x128 .f32)

/-- The second point leaves the memory block. -/
theorem copy_mem (hc : ¬cond1_0 i) : out1_B_4 c i arg1 harg1 arg2 harg2 arg3 harg3 arg4 harg4 arg5 harg5 arg6 harg6 arg7 harg7 hc x0 x1 x2 x3 = x2 := by
  unfold out1_B_4
  rw [View.read_writes_eq_canon _ _ _ (cover1_B_4 c i arg1 harg1 arg2 harg2 arg3 harg3 arg4 harg4 arg5 harg5 arg6 harg6 arg7 harg7 hc x0 x1 x2 x3)]
  unfold kernelRun1_B
  dsimp only
  sl_unfold_words
  rw [View.canon_unit_zero (S := S1024x256) hz]
  simp only [View.readAt_eq_ld, harg1.read_unread, harg2.read_unread, harg3.read_unread, harg4.read_unread, View.ld_unit_zero (S := S1024x256) hz, View.ld_unit_zero (S := S8x128) hz, View.ld_unit_zero (S := S256x256) hz, View.ld_unit_zero (S := S256x1) hz, shapeCast_self]

/-- The second point leaves zeros for the momentum. -/
theorem copy_mom (hc : ¬cond1_0 i) : out1_B_5 c i arg1 harg1 arg2 harg2 arg3 harg3 arg4 harg4 arg5 harg5 arg6 harg6 arg7 harg7 hc x0 x1 x2 x3 = k1_pay1 := by
  unfold out1_B_5
  rw [View.read_writes_eq_canon _ _ _ (cover1_B_5 c i arg1 harg1 arg2 harg2 arg3 harg3 arg4 harg4 arg5 harg5 arg6 harg6 arg7 harg7 hc x0 x1 x2 x3)]
  unfold kernelRun1_B
  dsimp only
  sl_unfold_words
  rw [View.canon_unit_zero (S := S1024x256) hz]

/-- The second point leaves the scores block. -/
theorem copy_sc (hc : ¬cond1_0 i) : out1_B_6 c i arg1 harg1 arg2 harg2 arg3 harg3 arg4 harg4 arg5 harg5 arg6 harg6 arg7 harg7 hc x0 x1 x2 x3 = x3 := by
  unfold out1_B_6
  rw [View.read_writes_eq_canon _ _ _ (cover1_B_6 c i arg1 harg1 arg2 harg2 arg3 harg3 arg4 harg4 arg5 harg5 arg6 harg6 arg7 harg7 hc x0 x1 x2 x3)]
  unfold kernelRun1_B
  dsimp only
  sl_unfold_words
  rw [View.canon_unit_zero (S := S8x128) hz]
  unfold k1_pay2
  simp only [View.readAt_eq_ld, harg1.read_unread, harg2.read_unread, harg3.read_unread, harg4.read_unread, View.ld_unit_zero (S := S1024x256) hz, View.ld_unit_zero (S := S8x128) hz, View.ld_unit_zero (S := S256x256) hz, View.ld_unit_zero (S := S256x1) hz, shapeCast_self]

/-- The first point's memory block: its first 256 rows rewritten over the copied block. -/
theorem first_mem (hc : cond1_0 i) : out1_A_4 c i arg1 harg1 arg2 harg2 arg3 harg3 arg4 harg4 arg5 harg5 arg6 harg6 arg7 harg7 hc x0 x1 x2 x3
    = View.canon [⟨Rect.unit ![0, 0] ![256, 256] inb_S1024x256_S256x256_0_0,
          k1_pay3 (k1_pay12 x1) (View.ld x2 (Rect.unit ![0, 0] ![256, 256] inb_S1024x256_S256x256_0_0))
            (k1_pay14 x1 x0 (View.ld x2 (Rect.unit ![0, 0] ![256, 256] inb_S1024x256_S256x256_0_0))) (FloatOps.ofBits FTy.f32 0#32)⟩,
        ⟨Rect.unit ![0, 0] ![1024, 256] inb_S1024x256_S1024x256_0_0, x2⟩] := by
  unfold out1_A_4
  rw [View.read_writes_eq_canon _ _ _ (cover1_A_4 c i arg1 harg1 arg2 harg2 arg3 harg3 arg4 harg4 arg5 harg5 arg6 harg6 arg7 harg7 hc x0 x1 x2 x3)]
  unfold kernelRun1_A
  dsimp only
  sl_unfold_words
  simp only [View.readAt_eq_ld, harg1.read_unread, harg2.read_unread, harg3.read_unread, harg4.read_unread, View.ld_unit_zero (S := S1024x256) hz, View.ld_unit_zero (S := S8x128) hz, View.ld_unit_zero (S := S256x256) hz, View.ld_unit_zero (S := S256x1) hz, shapeCast_self]

/-- The first point's momentum block: its first 256 rows written over zeros. -/
theorem first_mom (hc : cond1_0 i) : out1_A_5 c i arg1 harg1 arg2 harg2 arg3 harg3 arg4 harg4 arg5 harg5 arg6 harg6 arg7 harg7 hc x0 x1 x2 x3
    = View.canon [⟨Rect.unit ![0, 0] ![256, 256] inb_S1024x256_S256x256_0_0,
          k1_pay4 (k1_pay12 x1) (k1_pay13 x1 x0 (View.ld x2 (Rect.unit ![0, 0] ![256, 256] inb_S1024x256_S256x256_0_0)))⟩,
        ⟨Rect.unit ![0, 0] ![1024, 256] inb_S1024x256_S1024x256_0_0, k1_pay1⟩] := by
  unfold out1_A_5
  rw [View.read_writes_eq_canon _ _ _ (cover1_A_5 c i arg1 harg1 arg2 harg2 arg3 harg3 arg4 harg4 arg5 harg5 arg6 harg6 arg7 harg7 hc x0 x1 x2 x3)]
  unfold kernelRun1_A
  dsimp only
  sl_unfold_words
  simp only [View.readAt_eq_ld, harg1.read_unread, harg2.read_unread, harg3.read_unread, harg4.read_unread, View.ld_unit_zero (S := S1024x256) hz, View.ld_unit_zero (S := S8x128) hz, View.ld_unit_zero (S := S256x256) hz, View.ld_unit_zero (S := S256x1) hz, shapeCast_self]

/-- The first point's scores block: its first two rows rewritten over the copied block. -/
theorem first_sc (hc : cond1_0 i) : out1_A_6 c i arg1 harg1 arg2 harg2 arg3 harg3 arg4 harg4 arg5 harg5 arg6 harg6 arg7 harg7 hc x0 x1 x2 x3
    = View.canon [⟨Rect.unit ![1, 0] ![1, 128] inb_S8x128_S1x128_1_0,
          k1_pay7 (k1_pay8 x1) (k1_pay10 x1) (k1_pay11 x1) (View.ld x3 (Rect.unit ![1, 0] ![1, 128] inb_S8x128_S1x128_1_0))⟩,
        ⟨Rect.unit ![0, 0] ![1, 128] inb_S8x128_S1x128_0_0,
          k1_pay6 (k1_pay8 x1) (k1_pay10 x1) (k1_pay11 x1) (View.ld x3 (Rect.unit ![0, 0] ![1, 128] inb_S8x128_S1x128_0_0))⟩,
        ⟨Rect.unit ![0, 0] ![8, 128] inb_S8x128_S8x128_0_0, k1_pay2 x3⟩] := by
  unfold out1_A_6
  rw [View.read_writes_eq_canon _ _ _ (cover1_A_6 c i arg1 harg1 arg2 harg2 arg3 harg3 arg4 harg4 arg5 harg5 arg6 harg6 arg7 harg7 hc x0 x1 x2 x3)]
  unfold kernelRun1_A
  dsimp only
  sl_unfold_words
  simp only [View.readAt_eq_ld, harg1.read_unread, harg2.read_unread, harg3.read_unread, harg4.read_unread, View.ld_unit_zero (S := S1024x256) hz, View.ld_unit_zero (S := S8x128) hz, View.ld_unit_zero (S := S256x256) hz, View.ld_unit_zero (S := S256x1) hz, shapeCast_self]

end Cert.Proof.Scatter
-- ==== Proof.Compact.lean ====
/- The memory update's mathematics: which source row writes which slot, and what a slot holds after some of the rows. -/
module

public import Idealize.ShloMosaic.PureOps.Ideal

@[expose] public section

noncomputable section

open Idealize.ShloMosaic

namespace Cert.Proof.Compact

/-- The words' values: the threshold, the step and the momentum's weight. -/
abbrev cH : EReal := Ideal.ofBits .f32 0x3F000000#32
abbrev cL : EReal := Ideal.ofBits .f32 0x3DCCCCCD#32
abbrev cM : EReal := Ideal.ofBits .f32 0x3F666666#32

variable (s : Fin 256 → EReal)

/-- How many of the first `n` rows are surprising. -/
def rank (n : ℕ) : ℕ := (Finset.univ.filter fun j : Fin 256 => j.val < n ∧ cH < s j).card

/-- Row `i` writes slot `k`: it is surprising and `k` surprising rows stand before it. -/
def Hit (i : Fin 256) (k : ℕ) : Prop := cH < s i ∧ rank s i.val = k

theorem rank_zero : rank s 0 = 0 := by simp [rank]

theorem rank_succ (n : ℕ) (h : n < 256) : rank s (n + 1) = rank s n + if cH < s ⟨n, h⟩ then 1 else 0 := by
  unfold rank
  have e : (Finset.univ.filter fun j : Fin 256 => j.val < n + 1 ∧ cH < s j)
      = (Finset.univ.filter fun j : Fin 256 => j.val < n ∧ cH < s j) ∪ (Finset.univ.filter fun j : Fin 256 => j = ⟨n, h⟩ ∧ cH < s j) := by
    ext j
    simp only [Finset.mem_filter, Finset.mem_univ, true_and, Finset.mem_union, Fin.ext_iff]
    rw [← or_and_right, Nat.lt_succ_iff_lt_or_eq]
  rw [e, Finset.card_union_of_disjoint]
  · congr 1
    split_ifs with hc
    · refine Finset.card_eq_one.mpr ⟨⟨n, h⟩, ?_⟩
      ext j
      simp only [Finset.mem_filter, Finset.mem_univ, true_and, Finset.mem_singleton]
      exact ⟨fun q => q.1, fun q => ⟨q, q ▸ hc⟩⟩
    · refine Finset.card_eq_zero.mpr (Finset.filter_eq_empty_iff.mpr ?_)
      rintro j - ⟨rfl, q⟩
      exact hc q
  · refine Finset.disjoint_filter.mpr ?_
    rintro j - ⟨q, -⟩ ⟨rfl, -⟩
    exact lt_irrefl _ q

theorem rank_mono {a b : ℕ} (h : a ≤ b) : rank s a ≤ rank s b :=
  Finset.card_le_card fun j hj => by
    simp only [Finset.mem_filter, Finset.mem_univ, true_and] at hj ⊢
    exact ⟨hj.1.trans_le h, hj.2⟩

theorem rank_le {n : ℕ} (h : n ≤ 256) : rank s n ≤ n := by
  induction n with
  | zero => simp [rank_zero]
  | succ n ih =>
    rw [rank_succ s n h]
    have := ih (by omega)
    split_ifs <;> omega

variable {s}

theorem rank_lt {i : Fin 256} (h : cH < s i) {n : ℕ} (hn : i.val < n) : rank s i.val < rank s n := by
  have h1 := rank_succ s i.val i.isLt
  rw [if_pos h] at h1
  have h2 := rank_mono s (show i.val + 1 ≤ n by omega)
  omega

/-- A slot is written by at most one row. -/
theorem Hit.unique {i j : Fin 256} {k : ℕ} (hi : Hit s i k) (hj : Hit s j k) : i = j := by
  rcases lt_trichotomy i.val j.val with h | h | h
  · exact absurd (hi.2.trans hj.2.symm) (rank_lt hi.1 h).ne
  · exact Fin.ext h
  · exact absurd (hj.2.trans hi.2.symm) (rank_lt hj.1 h).ne

theorem Hit.lt {i : Fin 256} {k : ℕ} (h : Hit s i k) : k < 256 := by
  have := rank_le s i.isLt.le
  have := i.isLt
  have := h.2
  omega

/-- The written slots are the first ones, as many as there are surprising rows. -/
theorem written_iff (k : ℕ) : k < rank s 256 ↔ ∃ i, Hit s i k := by
  have key : ∀ n : ℕ, n ≤ 256 → (k < rank s n ↔ ∃ i : Fin 256, i.val < n ∧ Hit s i k) := by
    intro n
    induction n with
    | zero => simp [rank_zero]
    | succ n ih =>
      intro hn
      rw [rank_succ s n hn]
      constructor
      · intro hk
        by_cases hk' : k < rank s n
        · obtain ⟨i, hi, q⟩ := (ih (by omega)).mp hk'
          exact ⟨i, by omega, q⟩
        · split_ifs at hk with hc
          · exact ⟨⟨n, hn⟩, Nat.lt_succ_self n, hc, by simp only; omega⟩
          · omega
      · rintro ⟨i, hi, q⟩
        rcases Nat.lt_succ_iff_lt_or_eq.mp hi with h | h
        · have := (ih (by omega)).mpr ⟨i, h, q⟩
          omega
        · have hc : cH < s ⟨n, hn⟩ := by
            have e : i = ⟨n, hn⟩ := Fin.ext h
            rw [← e]; exact q.1
          rw [if_pos hc, ← q.2, h]
          omega
  rw [key 256 le_rfl]
  exact ⟨fun ⟨i, _, q⟩ => ⟨i, q⟩, fun ⟨i, q⟩ => ⟨i, i.isLt, q⟩⟩

/-- What slot `k` holds after the first `n` rows: the value of the row that has written it, otherwise the old one. -/
def Slot {α : Type} (s : Fin 256 → EReal) (n : ℕ) (k : ℕ) (new : Fin 256 → α) (old v : α) : Prop :=
  (∀ i, i.val < n → Hit s i k → v = new i) ∧ ((∀ i, i.val < n → ¬ Hit s i k) → v = old)

/-- A slot's value is determined. -/
theorem Slot.unique {α : Type} {n k : ℕ} {new : Fin 256 → α} {old v w : α} (hv : Slot s n k new old v) (hw : Slot s n k new old w) : v = w := by
  by_cases h : ∃ i, i.val < n ∧ Hit s i k
  · obtain ⟨i, hi, q⟩ := h
    rw [hv.1 i hi q, hw.1 i hi q]
  · have h' : ∀ i, i.val < n → ¬ Hit s i k := fun i hi q => h ⟨i, hi, q⟩
    rw [hv.2 h', hw.2 h']

theorem Slot.zero {α : Type} {k : ℕ} {new : Fin 256 → α} {old : α} : Slot s 0 k new old old :=
  ⟨fun _ h => absurd h (Nat.not_lt_zero _), fun _ => rfl⟩

/-- Row `n` writes the slot. -/
theorem Slot.write {α : Type} {n k : ℕ} {new : Fin 256 → α} {old v : α} (hn : n < 256) (hc : cH < s ⟨n, hn⟩) (hk : rank s n = k)
    (hv : v = new ⟨n, hn⟩) : Slot s (n + 1) k new old v := by
  have q : Hit s ⟨n, hn⟩ k := ⟨hc, hk⟩
  exact ⟨fun i _ qi => by rw [qi.unique q]; exact hv, fun h => absurd q (h _ (Nat.lt_succ_self n))⟩

/-- Row `n` leaves the slot. -/
theorem Slot.keep {α : Type} {n k : ℕ} {new : Fin 256 → α} {old v : α} (hn : n < 256) (hk : ¬ (cH < s ⟨n, hn⟩ ∧ rank s n = k))
    (hv : Slot s n k new old v) : Slot s (n + 1) k new old v := by
  have e : ∀ i : Fin 256, i.val < n + 1 → Hit s i k → i.val < n := fun i hi q => by
    rcases Nat.lt_succ_iff_lt_or_eq.mp hi with h | h
    · exact h
    · refine absurd ?_ hk
      have e : i = ⟨n, hn⟩ := Fin.ext h
      subst e
      exact q
  exact ⟨fun i hi q => hv.1 i (e i hi q) q, fun h => hv.2 fun i hi => h i (by omega)⟩

/-- The slot row `n` would write still holds the old value. -/
theorem Slot.fresh {α : Type} {n : ℕ} {new : Fin 256 → α} {old v : α} (hv : Slot s n (rank s n) new old v) : v = old :=
  hv.2 fun _ hi q => absurd q.2 (rank_lt q.1 hi).ne

open Classical in
/-- A sum over the rows that write a slot has the writer's term alone. -/
theorem sum_hit {i : Fin 256} {k : ℕ} (h : Hit s i k) (f : Fin 256 → EReal) : ∑ j, (if Hit s j k then 1 else 0) * f j = f i := by
  rw [Finset.sum_eq_single i]
  · rw [if_pos h, one_mul]
  · intro j _ hj
    rw [if_neg fun q => hj (q.unique h), zero_mul]
  · exact fun q => absurd (Finset.mem_univ i) q

/-- The count of the surprising rows before a row, as the kernel's product with a triangle of ones. -/
theorem sum_before (n : ℕ) : ∑ j : Fin 256, (if j.val < n then (1 : EReal) else 0) * (if cH < s j then 1 else 0) = ((rank s n : ℕ) : EReal) := by
  unfold rank
  rw [← Finset.sum_boole]
  refine Finset.sum_congr rfl fun j _ => ?_
  by_cases h1 : j.val < n <;> by_cases h2 : cH < s j <;> simp [h1, h2]

/-- The count of all of them. -/
theorem sum_all : ∑ j : Fin 256, (if cH < s j then (1 : EReal) else 0) = ((rank s 256 : ℕ) : EReal) := by
  rw [← sum_before 256]
  refine Finset.sum_congr rfl fun j _ => ?_
  rw [if_pos j.isLt, one_mul]

end Cert.Proof.Compact

end
-- ==== Proof.ScatterAt.lean ====
/- The second call's first blocks at an index: each entry is a slot after all the source rows. -/
module

public import proofs.«01_k».proof.Proof.Scatter
public import proofs.«01_k».proof.Proof.Compact
public import Idealize.ShloMosaic.Lib.Pointwise
public import Idealize.ShloMosaic.Lib.Pipeline.ValueKit.Geometry

@[expose] public section

set_option maxRecDepth 65536

noncomputable section

open Idealize.ShloMosaic Idealize.ShloMosaic.TcCoe Idealize.SL.Sem Idealize.ShloMosaic.Pointwise

namespace Cert.Proof.ScatterAt

open Cert.KernelIdeal Cert.KernelIdeal.Gen Cert.Proof.Layer Cert.Proof.Compact Cert.Proof.Scatter

/-- A small position as a float is itself. -/
theorem pos_val (n : ℕ) (h : n < 2 ^ 31) : FloatOps.sitofp (F := Ideal) FTy.f32 (BitVec.ofNat 32 n) = ((n : ℕ) : EReal) := by
  show (((BitVec.ofNat 32 n).toInt : ℝ) : EReal) = _
  rw [BitVec.toInt_ofNat', Int.bmod_eq_of_le (by omega) (by omega)]
  norm_cast

theorem c128 : Ideal.ofBits .f32 0x43000000#32 = ((128 : ℕ) : EReal) := by
  rw [show ((128 : ℕ) : EReal) = ((128 : ℝ) : EReal) by norm_cast]
  simp [Ideal.ofBits, Ideal.ieee, -EReal.coe_mul]
  norm_num

/-- The surprises of a column block. -/
abbrev sv (s : Vec Ideal S256x1 .f32) : Fin 256 → EReal := fun i => s (ix2 i 0)

variable (s : Vec Ideal S256x1 .f32) (h m : Vec Ideal S256x256 .f32)

theorem on_at (r : Fin 256) : k1_pay9 s (ix2 r 0) = if cH < sv s r then 1 else 0 := by
  pointwise [k1_pay9, k1_pay8]

open Classical in
/-- The selection matrix has a one where a row writes a slot. -/
theorem pt_at (r l : Fin 256) : k1_pay10 s (ix2 r l) = if Hit (sv s) r l.val then 1 else 0 := by
  pointwise [k1_pay10]
  have e : ∑ x : Fin 256, (if FloatOps.sitofp (F := Ideal) FTy.f32 (BitVec.ofNat 32 x.val) < FloatOps.sitofp (F := Ideal) FTy.f32 (BitVec.ofNat 32 r.val) then (1 : EReal) else 0)
      * k1_pay9 s (ix2 x 0) = ((rank (sv s) r.val : ℕ) : EReal) := by
    rw [← sum_before]
    refine Finset.sum_congr rfl fun x _ => ?_
    rw [on_at, pos_val _ (by omega), pos_val _ (by omega)]
    simp only [EReal.natCast_lt_iff]
  rw [e, on_at, pos_val _ (by omega)]
  unfold Hit
  by_cases h1 : cH < sv s r <;> by_cases h2 : rank (sv s) r.val = l.val <;>
    simp [h1, h2, Scalar.select, IntOp.andi, EReal.natCast_eq_iff]

theorem cnt_at : k1_pay11 s (ix2 0 0) = ((rank (sv s) 256 : ℕ) : EReal) := by
  pointwise [k1_pay11]
  rw [← sum_all]
  exact Finset.sum_congr rfl fun x _ => on_at s x

theorem wr_at (r : Fin 256) : k1_pay12 s (ix2 r 0) = BitVec.ofBool (decide (r.val < rank (sv s) 256)) := by
  pointwise [k1_pay12]
  rw [pos_val _ (by omega), cnt_at]
  simp only [EReal.natCast_lt_iff]

theorem sel_at {α : Type} (p : Prop) [Decidable p] (a b : α) : Scalar.select (BitVec.ofBool (decide p)) a b = if p then a else b := by
  by_cases h : p <;> simp [h, Scalar.select]

/-- The new momentum of a written slot. -/
theorem mom_hit {i : Fin 256} {r : Fin 256} (q : Hit (sv s) i r.val) (l : Fin 256) :
    k1_pay13 s h m (ix2 r l) = cL * (h (ix2 i l) - m (ix2 r l)) := by
  pointwise [k1_pay13]
  simp only [pt_at]
  rw [sum_hit q fun x => h (ix2 x l)]

/-- The rewritten memory rows. -/
theorem mem_slot (r l : Fin 256) : Slot (sv s) 256 r.val (fun i => m (ix2 r l) + cL * (cL * (h (ix2 i l) - m (ix2 r l)))) (m (ix2 r l))
    (k1_pay3 (k1_pay12 s) m (k1_pay14 s h m) (FloatOps.ofBits FTy.f32 0#32) (ix2 r l)) := by
  have e : k1_pay3 (k1_pay12 s) m (k1_pay14 s h m) (FloatOps.ofBits FTy.f32 0#32) (ix2 r l)
      = m (ix2 r l) + if r.val < rank (sv s) 256 then cL * k1_pay13 s h m (ix2 r l) else 0 := by
    pointwise [k1_pay3, k1_pay14]
    rw [wr_at, sel_at]
  rw [e]
  refine ⟨fun i _ q => ?_, fun hn => ?_⟩
  · rw [if_pos ((written_iff _).mpr ⟨i, q⟩), mom_hit s h m q]
  · rw [if_neg fun hk => ?_, add_zero]
    obtain ⟨i, q⟩ := (written_iff _).mp hk
    exact hn i i.isLt q

/-- The written momentum rows. -/
theorem mom_slot (r l : Fin 256) : Slot (sv s) 256 r.val (fun i => cL * (h (ix2 i l) - m (ix2 r l))) 0
    (k1_pay4 (k1_pay12 s) (k1_pay13 s h m) (ix2 r l)) := by
  have e : k1_pay4 (k1_pay12 s) (k1_pay13 s h m) (ix2 r l)
      = if r.val < rank (sv s) 256 then k1_pay13 s h m (ix2 r l) else 0 := by
    pointwise [k1_pay4]
    rw [wr_at, sel_at]
  rw [e]
  refine ⟨fun i _ q => ?_, fun hn => ?_⟩
  · rw [if_pos ((written_iff _).mpr ⟨i, q⟩), mom_hit s h m q]
  · rw [if_neg fun hk => ?_]
    obtain ⟨i, q⟩ := (written_iff _).mp hk
    exact hn i i.isLt q

open Classical in
/-- A score entry, of the selection at its slot. -/
theorem score_slot (k : Fin 256) (old : EReal) : Slot (sv s) 256 k.val (sv s) old
    (if k.val < rank (sv s) 256 then ∑ x, s (ix2 x 0) * k1_pay10 s (ix2 x k) else old) := by
  refine ⟨fun i _ q => ?_, fun hn => ?_⟩
  · rw [if_pos ((written_iff _).mpr ⟨i, q⟩), ← sum_hit q (sv s)]
    refine Finset.sum_congr rfl fun x _ => ?_
    rw [pt_at, mul_comm]
  · rw [if_neg fun hk => ?_]
    obtain ⟨i, q⟩ := (written_iff _).mp hk
    exact hn i i.isLt q

/-- The rewritten scores, the first row. -/
theorem score0_slot (o : Vec Ideal S1x128 .f32) (l : Fin 128) : Slot (sv s) 256 l.val (sv s) (o (ix2 0 l))
    (k1_pay6 (k1_pay8 s) (k1_pay10 s) (k1_pay11 s) o (ix2 0 l)) := by
  have e : k1_pay6 (k1_pay8 s) (k1_pay10 s) (k1_pay11 s) o (ix2 0 l)
      = if l.val < rank (sv s) 256 then ∑ x, s (ix2 x 0) * k1_pay10 s (ix2 x ⟨l.val, by omega⟩) else o (ix2 0 l) := by
    pointwise [k1_pay6, k1_pay5, k1_pay8]
    rw [cnt_at, pos_val _ (by omega)]
    simp only [EReal.natCast_lt_iff]
  rw [e]
  exact score_slot s ⟨l.val, by omega⟩ _

/-- The rewritten scores, the second row. -/
theorem score1_slot (o : Vec Ideal S1x128 .f32) (l : Fin 128) : Slot (sv s) 256 (128 + l.val) (sv s) (o (ix2 0 l))
    (k1_pay7 (k1_pay8 s) (k1_pay10 s) (k1_pay11 s) o (ix2 0 l)) := by
  have e : k1_pay7 (k1_pay8 s) (k1_pay10 s) (k1_pay11 s) o (ix2 0 l)
      = if 128 + l.val < rank (sv s) 256 then ∑ x, s (ix2 x 0) * k1_pay10 s (ix2 x ⟨128 + l.val, by omega⟩) else o (ix2 0 l) := by
    pointwise [k1_pay7, k1_pay5, k1_pay8]
    rw [cnt_at, pos_val _ (by omega), c128, ← Nat.cast_add]
    simp only [EReal.natCast_lt_iff, Nat.add_comm l.val]
  rw [e]
  exact score_slot s ⟨128 + l.val, by omega⟩ _

/-- No row writes a slot past the number of rows. -/
theorem past_slot {α : Type} {s : Fin 256 → EReal} {k : ℕ} (hk : 256 ≤ k) (new : Fin 256 → α) (old : α) : Slot s 256 k new old old :=
  ⟨fun _ _ q => absurd q.lt (by omega), fun _ => rfl⟩

/-- An entry of a rectangle of a table, placed. -/
theorem placed {n0 n1 s0 s1 o0 o1 : ℕ} (inb : ∀ a, ![o0, o1] a + ![s0, s1] a ≤ (⟨2, ![n0, n1]⟩ : Shape).size a) (p : Fin s0) (q : Fin s1)
    (x : Fin n0) (y : Fin n1) (h0 : x.val = o0 + p.val) (h1 : y.val = o1 + q.val) :
    (ix2 x y : (⟨2, ![n0, n1]⟩ : Shape).Idx) = (Rect.unit (s := ⟨2, ![n0, n1]⟩) ![o0, o1] ![s0, s1] inb).emb (ix2 p q) :=
  funext fun b => Fin.ext <| by
    rw [ValueKit.rect_emb_unit_val]
    match b with
    | ⟨0, _⟩ => exact h0
    | ⟨1, _⟩ => exact h1

section blocks

variable (c : Dev nD) (i : grid1.Coords) (arg1 : Memref sig .tc .vmem S256x256 .f32) (harg1 : arg1.IsWhole) (arg2 : Memref sig .tc .vmem S256x1 .f32) (harg2 : arg2.IsWhole) (arg3 : Memref sig .tc .vmem S1024x256 .f32) (harg3 : arg3.IsWhole) (arg4 : Memref sig .tc .vmem S8x128 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S8x128 .f32) (harg7 : arg7.IsWhole)
    (x0 : Vec Ideal S256x256 .f32) (x1 : Vec Ideal S256x1 .f32) (x2 : Vec Ideal S1024x256 .f32) (x3 : Vec Ideal S8x128 .f32)

/-- A load of a block's first 256 rows. -/
theorem ld_rows (r l : Fin 256) : View.ld x2 (Rect.unit ![0, 0] ![256, 256] inb_S1024x256_S256x256_0_0) (ix2 r l) = x2 (ix2 ⟨r.val, by omega⟩ l) :=
  congrArg x2 (placed _ _ _ _ _ (by simp) (by simp)).symm

/-- The first point's memory block at an entry. -/
theorem mem_blk (hc : cond1_0 i) (k : Fin 1024) (l : Fin 256) : Slot (sv x1) 256 k.val (fun i => x2 (ix2 k l) + cL * (cL * (x0 (ix2 i l) - x2 (ix2 k l)))) (x2 (ix2 k l))
    (out1_A_4 c i arg1 harg1 arg2 harg2 arg3 harg3 arg4 harg4 arg5 harg5 arg6 harg6 arg7 harg7 hc x0 x1 x2 x3 (ix2 k l)) := by
  rw [first_mem]
  by_cases hk : k.val < 256
  · have e : (ix2 k l : S1024x256.Idx) = (Rect.unit ![0, 0] ![256, 256] inb_S1024x256_S256x256_0_0).emb (ix2 (⟨k.val, hk⟩ : Fin 256) l) :=
      placed _ _ _ _ _ (by simp [*]) (by simp)
    have e2 := ld_rows x2 ⟨k.val, hk⟩ l
    rw [e, View.canon_cons_emb, ← e]
    have := mem_slot x1 x0 (View.ld x2 (Rect.unit ![0, 0] ![256, 256] inb_S1024x256_S256x256_0_0)) ⟨k.val, hk⟩ l
    rw [e2] at this
    exact this
  · rw [View.canon_cons_of_not_mem, View.canon_unit_zero (S := S1024x256) hz]
    · exact past_slot (by omega) _ _
    · rw [Rect.mem_set_unit]
      intro hm
      have := (hm 0).2
      simp at this
      omega

/-- The first point's momentum block at an entry. -/
theorem mom_blk (hc : cond1_0 i) (k : Fin 1024) (l : Fin 256) : Slot (sv x1) 256 k.val (fun i => cL * (x0 (ix2 i l) - x2 (ix2 k l))) 0
    (out1_A_5 c i arg1 harg1 arg2 harg2 arg3 harg3 arg4 harg4 arg5 harg5 arg6 harg6 arg7 harg7 hc x0 x1 x2 x3 (ix2 k l)) := by
  rw [first_mom]
  by_cases hk : k.val < 256
  · have e : (ix2 k l : S1024x256.Idx) = (Rect.unit ![0, 0] ![256, 256] inb_S1024x256_S256x256_0_0).emb (ix2 (⟨k.val, hk⟩ : Fin 256) l) :=
      placed _ _ _ _ _ (by simp [*]) (by simp)
    have e2 := ld_rows x2 ⟨k.val, hk⟩ l
    rw [e, View.canon_cons_emb, ← e]
    have := mom_slot x1 x0 (View.ld x2 (Rect.unit ![0, 0] ![256, 256] inb_S1024x256_S256x256_0_0)) ⟨k.val, hk⟩ l
    rw [e2] at this
    exact this
  · rw [View.canon_cons_of_not_mem, View.canon_unit_zero (S := S1024x256) hz]
    · have e : (k1_pay1 : FVec Ideal S1024x256 .f32) (ix2 k l) = 0 := by pointwise [k1_pay1]
      rw [e]
      exact past_slot (by omega) _ _
    · rw [Rect.mem_set_unit]
      intro hm
      have := (hm 0).2
      simp at this
      omega

/-- The first point's scores block at an entry. -/
theorem sc_blk (hc : cond1_0 i) (a : Fin 8) (b : Fin 128) : Slot (sv x1) 256 (128 * a.val + b.val) (sv x1) (x3 (ix2 a b))
    (out1_A_6 c i arg1 harg1 arg2 harg2 arg3 harg3 arg4 harg4 arg5 harg5 arg6 harg6 arg7 harg7 hc x0 x1 x2 x3 (ix2 a b)) := by
  rw [first_sc]
  by_cases h1 : a.val = 1
  · have e : (ix2 a b : S8x128.Idx) = (Rect.unit ![1, 0] ![1, 128] inb_S8x128_S1x128_1_0).emb (ix2 (0 : Fin 1) b) :=
      placed _ _ _ _ _ (by simp [*]) (by simp)
    have e2 : x3 (ix2 a b) = View.ld x3 (Rect.unit ![1, 0] ![1, 128] inb_S8x128_S1x128_1_0) (ix2 (0 : Fin 1) b) := congrArg x3 e
    rw [e2, e, View.canon_cons_emb, h1]
    exact score1_slot x1 _ b
  · rw [View.canon_cons_of_not_mem]
    swap
    · rw [Rect.mem_set_unit]
      intro hm
      have := hm 0
      simp at this
      omega
    by_cases h0 : a.val = 0
    · have e : (ix2 a b : S8x128.Idx) = (Rect.unit ![0, 0] ![1, 128] inb_S8x128_S1x128_0_0).emb (ix2 (0 : Fin 1) b) :=
        placed _ _ _ _ _ (by simp [*]) (by simp)
      have e2 : x3 (ix2 a b) = View.ld x3 (Rect.unit ![0, 0] ![1, 128] inb_S8x128_S1x128_0_0) (ix2 (0 : Fin 1) b) := congrArg x3 e
      rw [e2, e, View.canon_cons_emb, h0, Nat.mul_zero, Nat.zero_add]
      exact score0_slot x1 _ b
    · rw [View.canon_cons_of_not_mem]
      · rw [View.canon_unit_zero (S := S8x128) hz]
        unfold k1_pay2
        rw [shapeCast_self]
        exact past_slot (by omega) _ _
      · rw [Rect.mem_set_unit]
        intro hm
        have := hm 0
        simp at this
        omega

end blocks

end Cert.Proof.ScatterAt

end
-- ==== Proof.KernelAt.lean ====
/- The arrays after each call, at an index, over the contents the call finds. -/
module

public import proofs.«01_k».proof.Proof.LayerAt
public import proofs.«01_k».proof.Proof.ScatterAt

@[expose] public section

set_option maxRecDepth 65536

noncomputable section

open Idealize.ShloMosaic Idealize.ShloMosaic.TcCoe Idealize.SL.Sem Idealize.ShloMosaic.Pointwise

namespace Cert.Proof.KernelAt

open Cert.KernelIdeal Cert.KernelIdeal.Gen Cert.Proof.Layer Cert.Proof.LayerAt Cert.Proof.Model Cert.Proof.Compact Cert.Proof.Scatter Cert.Proof.ScatterAt

variable (V : (c : Dev nD) → (b : Ref sig .tc) → Buf (Elt Ideal) ((c : Thread nD τ).loc b)) (c : Dev nD)

theorem ix0_0 : ∀ t : Fin cfg0.N, win0_0.index t = ![t.val, 0] := (by decide +kernel : ∀ t : Fin grid0.N, win0_0.index t = ![t.val, 0])
theorem ix0_1 : ∀ t : Fin cfg0.N, win0_1.index t = ![0, 0] := (by decide +kernel : ∀ t : Fin grid0.N, win0_1.index t = ![0, 0])
theorem ix0_2 : ∀ t : Fin cfg0.N, win0_2.index t = ![0, 0] := (by decide +kernel : ∀ t : Fin grid0.N, win0_2.index t = ![0, 0])
theorem ix0_3 : ∀ t : Fin cfg0.N, win0_3.index t = ![0, 0] := (by decide +kernel : ∀ t : Fin grid0.N, win0_3.index t = ![0, 0])
theorem ix0_4 : ∀ t : Fin cfg0.N, win0_4.index t = ![t.val, 0] := (by decide +kernel : ∀ t : Fin grid0.N, win0_4.index t = ![t.val, 0])
theorem ix0_5 : ∀ t : Fin cfg0.N, win0_5.index t = ![t.val, 0] := (by decide +kernel : ∀ t : Fin grid0.N, win0_5.index t = ![t.val, 0])
theorem ix0_6 : ∀ t : Fin cfg0.N, win0_6.index t = ![t.val, 0] := (by decide +kernel : ∀ t : Fin grid0.N, win0_6.index t = ![t.val, 0])

theorem lt0 (t : Fin cfg0.N) : t.val < 2 := by
  have := t.isLt
  have e : cfg0.N = 2 := N_0
  omega

/-- The source block at a point, at an entry. -/
theorem src_at (t : Fin cfg0.N) (r : Fin 128) (k : Fin 256) : iblk0 V c 0 t (ix2 r k)
    = V c main_arg0 (ix2 ⟨t.val * 128 + r.val, by have := lt0 t; omega⟩ k) := by
  blk_simp [iblk0]
  refine congrArg (V c main_arg0) ?_
  blk_ext [ix0_0]

/-- The memory is one block. -/
theorem mem_at (t : Fin cfg0.N) (r : Fin 2048) (k : Fin 256) : iblk0 V c 1 t (ix2 r k) = V c main_arg1 (ix2 r k) := by
  blk_simp [iblk0]
  refine congrArg (V c main_arg1) ?_
  blk_ext [ix0_1]

/-- The projection is one block. -/
theorem inw_at (t : Fin cfg0.N) (r : Fin 768) (k : Fin 256) : iblk0 V c 2 t (ix2 r k) = V c main_arg4 (ix2 r k) := by
  blk_simp [iblk0]
  refine congrArg (V c main_arg4) ?_
  blk_ext [ix0_2]

/-- The output projection is one block. -/
theorem outw_at (t : Fin cfg0.N) (r : Fin 256) (k : Fin 256) : iblk0 V c 3 t (ix2 r k) = V c main_arg6 (ix2 r k) := by
  blk_simp [iblk0]
  refine congrArg (V c main_arg6) ?_
  blk_ext [ix0_3]

/-- The contents of a call's operands, as tables of reals. -/
abbrev tab (n0 n1 : ℕ) (x : (⟨2, ![n0, n1]⟩ : Shape).Idx → EReal) : Fin n0 → Fin n1 → EReal := fun i k => x (ix2 i k)

/-- The memory, the two projections and the source the calls read. -/
abbrev mV : Fin 2048 → Fin 256 → EReal := tab 2048 256 (V c main_arg1)
abbrev wV : Fin 768 → Fin 256 → EReal := tab 768 256 (V c main_arg4)
abbrev oV : Fin 256 → Fin 256 → EReal := tab 256 256 (V c main_arg6)
abbrev xV : Fin 256 → Fin 256 → EReal := tab 256 256 (V c main_arg0)

/-- The feed-forward weights. -/
abbrev aV : Fin 1024 → Fin 256 → EReal := tab 1024 256 (V c main_arg8)
abbrev bV : Fin 256 → Fin 1024 → EReal := tab 256 1024 (V c main_arg10)

/-- A point's stored block of rows. -/
theorem h_blk (t : Fin cfg0.N) (r : Fin 128) (l : Fin 256) : (outsAt0 V c t).2.1 (ix2 r l)
    = hK (mV V c) (wV V c) (oV V c) (xV V c ⟨t.val * 128 + r.val, by have := lt0 t; omega⟩) l := by
  rw [outsAt0]
  dsimp only
  rw [out_h, h_at]
  simp only [src_at, mem_at, inw_at, outw_at]

theorem place5 (t : Fin cfg0.N) (r : Fin 128) (l : Fin 256) : ((win0_5.blk t).view.emb (ix2 r l) : S256x256.Idx)
    = ix2 (⟨t.val * 128 + r.val, by have := lt0 t; omega⟩ : Fin 256) l := by
  blk_ext [ix0_5]

/-- The first call leaves the layer's rows. -/
theorem h_arr (i l : Fin 256) : (dat0 V c).arrAt 5 cfg0.N (ix2 i l) = hK (mV V c) (wV V c) (oV V c) (xV V c i) l := by
  refine (dat0 V c).arrAt_forall_of_covers 5 (fun (i : S256x256.Idx) v => v = hK (mV V c) (wV V c) (oV V c) (xV V c (i 0)) (i 1))
    (by decide +kernel) (fun t hf y => ?_) (ix2 i l)
  have key : ∀ (r : Fin 128) (l : Fin 256), (outsAt0 V c t).2.1 (ix2 r l) = hK (mV V c) (wV V c) (oV V c)
      (xV V c ((win0_5.blk t).view.emb (ix2 r l) 0)) ((win0_5.blk t).view.emb (ix2 r l) 1) := fun r l => by
    rw [place5]
    exact h_blk V c t r l
  blk_simp
  rw [after0_5]
  rw [eq_ix2 (n0 := 128) (n1 := 256) y]
  exact key (y 0) (y 1)

/-- A point's stored block of result rows. -/
theorem out_blk (t : Fin cfg0.N) (r : Fin 128) (l : Fin 256) : (outsAt0 V c t).1 (ix2 r l)
    = lnK (ff (aV V c) (bV V c) (hK (mV V c) (wV V c) (oV V c) (xV V c ⟨t.val * 128 + r.val, by have := lt0 t; omega⟩))) l := by
  rw [outsAt0]
  dsimp only
  rw [out_out, out_at]
  simp only [src_at, mem_at, inw_at, outw_at]

theorem place4 (t : Fin cfg0.N) (r : Fin 128) (l : Fin 256) : ((win0_4.blk t).view.emb (ix2 r l) : S256x256.Idx)
    = ix2 (⟨t.val * 128 + r.val, by have := lt0 t; omega⟩ : Fin 256) l := by
  blk_ext [ix0_4]

/-- The first call leaves the result's rows. -/
theorem out_arr (i l : Fin 256) : (dat0 V c).arrAt 4 cfg0.N (ix2 i l)
    = lnK (ff (aV V c) (bV V c) (hK (mV V c) (wV V c) (oV V c) (xV V c i))) l := by
  refine (dat0 V c).arrAt_forall_of_covers 4 (fun (i : S256x256.Idx) v => v = lnK (ff (aV V c) (bV V c) (hK (mV V c) (wV V c) (oV V c) (xV V c (i 0)))) (i 1))
    (by decide +kernel) (fun t hf y => ?_) (ix2 i l)
  have key : ∀ (r : Fin 128) (l : Fin 256), (outsAt0 V c t).1 (ix2 r l) = lnK (ff (aV V c) (bV V c) (hK (mV V c) (wV V c) (oV V c)
      (xV V c ((win0_4.blk t).view.emb (ix2 r l) 0)))) ((win0_4.blk t).view.emb (ix2 r l) 1) := fun r l => by
    rw [place4]
    exact out_blk V c t r l
  blk_simp
  rw [after0_4]
  rw [eq_ix2 (n0 := 128) (n1 := 256) y]
  exact key (y 0) (y 1)

/-- A point's stored block of surprises. -/
theorem surp_blk (t : Fin cfg0.N) (r : Fin 128) (l : Fin 1) : (outsAt0 V c t).2.2 (ix2 r l)
    = surpK (mV V c) (xV V c ⟨t.val * 128 + r.val, by have := lt0 t; omega⟩) := by
  rw [outsAt0]
  dsimp only
  rw [out_surp, surp_at]
  simp only [src_at, mem_at]

theorem place6 (t : Fin cfg0.N) (r : Fin 128) (l : Fin 1) : ((win0_6.blk t).view.emb (ix2 r l) : S256x1.Idx)
    = ix2 (⟨t.val * 128 + r.val, by have := lt0 t; omega⟩ : Fin 256) l := by
  blk_ext [ix0_6]

/-- The first call leaves the rows' surprises. -/
theorem surp_arr (i : Fin 256) (l : Fin 1) : (dat0 V c).arrAt 6 cfg0.N (ix2 i l) = surpK (mV V c) (xV V c i) := by
  refine (dat0 V c).arrAt_forall_of_covers 6 (fun (i : S256x1.Idx) v => v = surpK (mV V c) (xV V c (i 0)))
    (by decide +kernel) (fun t hf y => ?_) (ix2 i l)
  have key : ∀ (r : Fin 128) (l : Fin 1), (outsAt0 V c t).2.2 (ix2 r l) = surpK (mV V c) (xV V c ((win0_6.blk t).view.emb (ix2 r l) 0)) := fun r l => by
    rw [place6]
    exact surp_blk V c t r l
  blk_simp
  rw [after0_6]
  rw [eq_ix2 (n0 := 128) (n1 := 1) y]
  exact key (y 0) (y 1)

theorem ix1_0 : ∀ t : Fin cfg1.N, win1_0.index t = ![0, 0] := (by decide +kernel : ∀ t : Fin grid1.N, win1_0.index t = ![0, 0])
theorem ix1_1 : ∀ t : Fin cfg1.N, win1_1.index t = ![0, 0] := (by decide +kernel : ∀ t : Fin grid1.N, win1_1.index t = ![0, 0])
theorem ix1_2 : ∀ t : Fin cfg1.N, win1_2.index t = ![t.val, 0] := (by decide +kernel : ∀ t : Fin grid1.N, win1_2.index t = ![t.val, 0])
theorem ix1_3 : ∀ t : Fin cfg1.N, win1_3.index t = ![t.val, 0] := (by decide +kernel : ∀ t : Fin grid1.N, win1_3.index t = ![t.val, 0])
theorem ix1_4 : ∀ t : Fin cfg1.N, win1_4.index t = ![t.val, 0] := (by decide +kernel : ∀ t : Fin grid1.N, win1_4.index t = ![t.val, 0])
theorem ix1_5 : ∀ t : Fin cfg1.N, win1_5.index t = ![t.val, 0] := (by decide +kernel : ∀ t : Fin grid1.N, win1_5.index t = ![t.val, 0])
theorem ix1_6 : ∀ t : Fin cfg1.N, win1_6.index t = ![t.val, 0] := (by decide +kernel : ∀ t : Fin grid1.N, win1_6.index t = ![t.val, 0])

theorem lt1 (t : Fin cfg1.N) : t.val < 2 := by
  have := t.isLt
  have e : cfg1.N = 2 := N_1
  omega

theorem hrows_at (t : Fin cfg1.N) (r k : Fin 256) : iblk1 V c 0 t (ix2 r k) = V c main_v1_1 (ix2 r k) := by
  blk_simp [iblk1]
  refine congrArg (V c main_v1_1) ?_
  blk_ext [ix1_0]

theorem surps_at (t : Fin cfg1.N) (r : Fin 256) : iblk1 V c 1 t (ix2 r (0 : Fin 1)) = V c main_v1_2 (ix2 r (0 : Fin 1)) := by
  blk_simp [iblk1]
  refine congrArg (V c main_v1_2) ?_
  blk_ext [ix1_1]

theorem half_at (t : Fin cfg1.N) (r : Fin 1024) (k : Fin 256) : iblk1 V c 2 t (ix2 r k)
    = V c main_arg1 (ix2 ⟨t.val * 1024 + r.val, by have := lt1 t; omega⟩ k) := by
  blk_simp [iblk1]
  refine congrArg (V c main_arg1) ?_
  blk_ext [ix1_2]

theorem scores_at (t : Fin cfg1.N) (r : Fin 8) (k : Fin 128) : iblk1 V c 3 t (ix2 r k)
    = V c main_v0 (ix2 ⟨t.val * 8 + r.val, by have := lt1 t; omega⟩ k) := by
  blk_simp [iblk1]
  refine congrArg (V c main_v0) ?_
  blk_ext [ix1_3]

/-- The surprises the second call reads. -/
abbrev sV : Fin 256 → EReal := fun i => V c main_v1_2 (ix2 i (0 : Fin 1))

theorem sv_blk (t : Fin cfg1.N) : sv (iblk1 V c 1 t) = sV V c := funext fun i => surps_at V c t i

/-- The rows and the scores the second call reads. -/
abbrev hV : Fin 256 → Fin 256 → EReal := tab 256 256 (V c main_v1_1)
abbrev scV : Fin 16 → Fin 128 → EReal := tab 16 128 (V c main_v0)

/-- A point's memory block at an entry. -/
theorem memw_blk (t : Fin cfg1.N) (r : Fin 1024) (l : Fin 256) (k : Fin 2048) (hk : k.val = t.val * 1024 + r.val) : Slot (sV V c) 256 k.val
    (fun i => mV V c k l + cL * (cL * (hV V c i l - mV V c k l))) (mV V c k l) ((outsAt1 V c t.val t.isLt).1 (ix2 r l)) := by
  have ek : k = ⟨t.val * 1024 + r.val, by have := lt1 t; omega⟩ := Fin.ext hk
  by_cases h0 : t.val % 2 = 0
  · have h2 : t.val = 0 := by have := lt1 t; omega
    rw [outsAt1_A V c t h0]
    dsimp only
    have := mem_blk c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) ((hcond1_0 t).mpr h0) r l
    simp only [half_at, hrows_at, sv_blk] at this
    rw [← ek] at this
    rw [show k.val = r.val by omega]
    exact this
  · have h2 : t.val = 1 := by have := lt1 t; omega
    rw [outsAt1_B V c t h0]
    dsimp only
    rw [copy_mem, half_at, ← ek]
    exact past_slot (by omega) _ _

theorem placew4 (t : Fin cfg1.N) (r : Fin 1024) (l : Fin 256) : ((win1_4.blk t).view.emb (ix2 r l) : S2048x256.Idx)
    = ix2 (⟨t.val * 1024 + r.val, by have := lt1 t; omega⟩ : Fin 2048) l := by
  blk_ext [ix1_4]

/-- The second call leaves each memory slot after all rows. -/
theorem mem_arr (k : Fin 2048) (l : Fin 256) : Slot (sV V c) 256 k.val
    (fun i => mV V c k l + cL * (cL * (hV V c i l - mV V c k l))) (mV V c k l) ((dat1 V c).arrAt 4 cfg1.N (ix2 k l)) := by
  refine (dat1 V c).arrAt_forall_of_covers 4 (fun (i : S2048x256.Idx) v => Slot (sV V c) 256 (i 0).val
    (fun r => mV V c (i 0) (i 1) + cL * (cL * (hV V c r (i 1) - mV V c (i 0) (i 1)))) (mV V c (i 0) (i 1)) v)
    (by decide +kernel) (fun t hf y => ?_) (ix2 k l)
  have key : ∀ (r : Fin 1024) (l : Fin 256), Slot (sV V c) 256 ((win1_4.blk t).view.emb (ix2 r l) 0).val
      (fun r' => mV V c ((win1_4.blk t).view.emb (ix2 r l) 0) ((win1_4.blk t).view.emb (ix2 r l) 1)
        + cL * (cL * (hV V c r' ((win1_4.blk t).view.emb (ix2 r l) 1) - mV V c ((win1_4.blk t).view.emb (ix2 r l) 0) ((win1_4.blk t).view.emb (ix2 r l) 1))))
      (mV V c ((win1_4.blk t).view.emb (ix2 r l) 0) ((win1_4.blk t).view.emb (ix2 r l) 1)) ((outsAt1 V c t.val t.isLt).1 (ix2 r l)) := fun r l => by
    rw [placew4]
    exact memw_blk V c t r l _ rfl
  blk_simp
  rw [after1_4]
  rw [eq_ix2 (n0 := 1024) (n1 := 256) y]
  have hk := key (y 0) (y 1)
  blk_simp at hk
  exact hk

/-- A point's momentum block at an entry. -/
theorem momw_blk (t : Fin cfg1.N) (r : Fin 1024) (l : Fin 256) (k : Fin 2048) (hk : k.val = t.val * 1024 + r.val) : Slot (sV V c) 256 k.val
    (fun i => cL * (hV V c i l - mV V c k l)) 0 ((outsAt1 V c t.val t.isLt).2.1 (ix2 r l)) := by
  have ek : k = ⟨t.val * 1024 + r.val, by have := lt1 t; omega⟩ := Fin.ext hk
  by_cases h0 : t.val % 2 = 0
  · have h2 : t.val = 0 := by have := lt1 t; omega
    rw [outsAt1_A V c t h0]
    dsimp only
    have := mom_blk c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) ((hcond1_0 t).mpr h0) r l
    simp only [half_at, hrows_at, sv_blk] at this
    rw [← ek] at this
    rw [show k.val = r.val by omega]
    exact this
  · have h2 : t.val = 1 := by have := lt1 t; omega
    rw [outsAt1_B V c t h0]
    dsimp only
    rw [copy_mom]
    have e : (k1_pay1 : FVec Ideal S1024x256 .f32) (ix2 r l) = 0 := by pointwise [k1_pay1]
    rw [e]
    exact past_slot (by omega) _ _

theorem placew5 (t : Fin cfg1.N) (r : Fin 1024) (l : Fin 256) : ((win1_5.blk t).view.emb (ix2 r l) : S2048x256.Idx)
    = ix2 (⟨t.val * 1024 + r.val, by have := lt1 t; omega⟩ : Fin 2048) l := by
  blk_ext [ix1_5]

/-- The second call leaves each momentum slot after all rows. -/
theorem mom_arr (k : Fin 2048) (l : Fin 256) : Slot (sV V c) 256 k.val
    (fun i => cL * (hV V c i l - mV V c k l)) 0 ((dat1 V c).arrAt 5 cfg1.N (ix2 k l)) := by
  refine (dat1 V c).arrAt_forall_of_covers 5 (fun (i : S2048x256.Idx) v => Slot (sV V c) 256 (i 0).val
    (fun r => cL * (hV V c r (i 1) - mV V c (i 0) (i 1))) 0 v)
    (by decide +kernel) (fun t hf y => ?_) (ix2 k l)
  have key : ∀ (r : Fin 1024) (l : Fin 256), Slot (sV V c) 256 ((win1_5.blk t).view.emb (ix2 r l) 0).val
      (fun r' => cL * (hV V c r' ((win1_5.blk t).view.emb (ix2 r l) 1) - mV V c ((win1_5.blk t).view.emb (ix2 r l) 0) ((win1_5.blk t).view.emb (ix2 r l) 1)))
      0 ((outsAt1 V c t.val t.isLt).2.1 (ix2 r l)) := fun r l => by
    rw [placew5]
    exact momw_blk V c t r l _ rfl
  blk_simp
  rw [after1_5]
  rw [eq_ix2 (n0 := 1024) (n1 := 256) y]
  have hk := key (y 0) (y 1)
  blk_simp at hk
  exact hk

/-- A point's scores block at an entry. -/
theorem scw_blk (t : Fin cfg1.N) (r : Fin 8) (l : Fin 128) (k : Fin 16) (hk : k.val = t.val * 8 + r.val) : Slot (sV V c) 256 (128 * k.val + l.val)
    (sV V c) (scV V c k l) ((outsAt1 V c t.val t.isLt).2.2 (ix2 r l)) := by
  have ek : k = ⟨t.val * 8 + r.val, by have := lt1 t; omega⟩ := Fin.ext hk
  by_cases h0 : t.val % 2 = 0
  · have h2 : t.val = 0 := by have := lt1 t; omega
    rw [outsAt1_A V c t h0]
    dsimp only
    have := sc_blk c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) ((hcond1_0 t).mpr h0) r l
    simp only [scores_at, sv_blk] at this
    rw [← ek] at this
    rw [show k.val = r.val by omega]
    exact this
  · have h2 : t.val = 1 := by have := lt1 t; omega
    rw [outsAt1_B V c t h0]
    dsimp only
    rw [copy_sc, scores_at, ← ek]
    exact past_slot (by omega) _ _

theorem placew6 (t : Fin cfg1.N) (r : Fin 8) (l : Fin 128) : ((win1_6.blk t).view.emb (ix2 r l) : S16x128.Idx)
    = ix2 (⟨t.val * 8 + r.val, by have := lt1 t; omega⟩ : Fin 16) l := by
  blk_ext [ix1_6]

/-- The second call leaves each score slot after all rows. -/
theorem sc_arr (k : Fin 16) (l : Fin 128) : Slot (sV V c) 256 (128 * k.val + l.val) (sV V c) (scV V c k l) ((dat1 V c).arrAt 6 cfg1.N (ix2 k l)) := by
  refine (dat1 V c).arrAt_forall_of_covers 6 (fun (i : S16x128.Idx) v => Slot (sV V c) 256 (128 * (i 0).val + (i 1).val)
    (sV V c) (scV V c (i 0) (i 1)) v)
    (by decide +kernel) (fun t hf y => ?_) (ix2 k l)
  have key : ∀ (r : Fin 8) (l : Fin 128), Slot (sV V c) 256 (128 * ((win1_6.blk t).view.emb (ix2 r l) 0).val + ((win1_6.blk t).view.emb (ix2 r l) 1).val)
      (sV V c) (scV V c ((win1_6.blk t).view.emb (ix2 r l) 0) ((win1_6.blk t).view.emb (ix2 r l) 1)) ((outsAt1 V c t.val t.isLt).2.2 (ix2 r l)) := fun r l => by
    rw [placew6]
    exact scw_blk V c t r l _ rfl
  blk_simp
  rw [after1_6]
  rw [eq_ix2 (n0 := 8) (n1 := 128) y]
  have hk := key (y 0) (y 1)
  blk_simp at hk
  exact hk

end Cert.Proof.KernelAt

end
-- ==== Proof.Spec.lean ====
/- What a run must end holding, row by row and slot by slot. It determines the four results. -/
module

public import proofs.«01_k».proof.Proof.Model
public import proofs.«01_k».proof.Proof.Compact

@[expose] public section

noncomputable section

open Idealize.ShloMosaic

namespace Cert.Proof.Spec

open Cert.Proof.Model Cert.Proof.Compact

/-- The results of one step from a full memory: the rows of the layer, and each slot after all the rows. -/
structure Answer (x : Fin 256 → Fin 256 → EReal) (m : Fin 2048 → Fin 256 → EReal) (w : Fin 768 → Fin 256 → EReal) (o : Fin 256 → Fin 256 → EReal)
    (w1 : Fin 1024 → Fin 256 → EReal) (w2 : Fin 256 → Fin 1024 → EReal) (sc : Fin 2048 → EReal)
    (out : Fin 256 → Fin 256 → EReal) (mf vf : Fin 2048 → Fin 256 → EReal) (sf : Fin 2048 → EReal) : Prop where
  rows : ∀ i l, out i l = lnK (ff w1 w2 (hK m w o (x i))) l
  mems : ∀ k l, Slot (fun i => surpK m (x i)) 256 k.val (fun i => m k l + cL * (cL * (hK m w o (x i) l - m k l))) (m k l) (mf k l)
  moms : ∀ k l, Slot (fun i => surpK m (x i)) 256 k.val (fun i => cL * (hK m w o (x i) l - m k l)) 0 (vf k l)
  scs : ∀ k, Slot (fun i => surpK m (x i)) 256 k.val (fun i => surpK m (x i)) (sc k) (sf k)

/-- Two answers are the same. -/
theorem Answer.unique {x m w o w1 w2 sc out mf vf sf out' mf' vf' sf'} (a : Answer x m w o w1 w2 sc out mf vf sf)
    (b : Answer x m w o w1 w2 sc out' mf' vf' sf') : out = out' ∧ mf = mf' ∧ vf = vf' ∧ sf = sf' :=
  ⟨funext fun i => funext fun l => (a.rows i l).trans (b.rows i l).symm, funext fun k => funext fun l => (a.mems k l).unique (b.mems k l),
    funext fun k => funext fun l => (a.moms k l).unique (b.moms k l), funext fun k => (a.scs k).unique (b.scs k)⟩

end Cert.Proof.Spec

end
-- ==== Proof.KernelRun.lean ====
/- The kernel's run: every buffer ends at the fold through the two calls, whose results are the answer. -/
module

public import proofs.«01_k».proof.Proof.KernelAt
public import proofs.«01_k».proof.Proof.Spec
public import Idealize.ShloMosaic.Lib.StableHlo.ReadAt

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise

namespace Cert.Proof.KernelRun

open Cert.KernelIdeal Cert.KernelIdeal.Gen Cert.Proof.Model Cert.Proof.Compact Cert.Proof.KernelAt Cert.Proof.Spec

variable (m : (ℓ : Loc nD τ sig) → Buf (Elt Ideal) ℓ) (ρ : Dev nD → PrngReg)

set_option backward.isDefEq.respectTransparency.types false in
/-- Every run ends with each buffer at the fold's contents. -/
theorem ends : θ_run defs (onTc (τ := τ) (main (F := Ideal))) ⟨m, fun _ => 0, ρ⟩ (fun r => ∀ c : Dev nD, ∀ b ∈ Pipeline.ucRefs τ sig,
      r.2.mem (((c : Thread nD τ)).1, b) = W4 m ρ c b) :=
  Pipeline.θ_run_regions_kit_sems (pcfgs (F := Ideal)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp (MT nD τ sig Unit (Elt Ideal) ℕ (Pipeline.UD sig nD τ) ℕ)) ⊢ bigSep Finset.univ (fun _ : Dev nD => (BI.emp : sProp (MT nD τ sig Unit (Elt Ideal) ℕ (Pipeline.UD sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => h)

variable (c : Dev nD)

/-- The arguments as tables. -/
abbrev X : Fin 256 → Fin 256 → EReal := tab 256 256 (m ((c : Thread nD τ).loc main_arg0))
abbrev M : Fin 2048 → Fin 256 → EReal := tab 2048 256 (m ((c : Thread nD τ).loc main_arg1))
abbrev Wi : Fin 768 → Fin 256 → EReal := tab 768 256 (m ((c : Thread nD τ).loc main_arg4))
abbrev Wo : Fin 256 → Fin 256 → EReal := tab 256 256 (m ((c : Thread nD τ).loc main_arg6))
abbrev F1 : Fin 1024 → Fin 256 → EReal := tab 1024 256 (m ((c : Thread nD τ).loc main_arg8))
abbrev F2 : Fin 256 → Fin 1024 → EReal := tab 256 1024 (m ((c : Thread nD τ).loc main_arg10))
abbrev Sc : Fin 2048 → EReal := fun k => (m ((c : Thread nD τ).loc main_arg3) : S2048.Idx → EReal) (ix1 k)

theorem v1_arg (a : Ref sig .tc) (h : a ∈ argRefs) : V1 m ρ c a = m ((c : Thread nD τ).loc a) := W1_args m ρ c a h

theorem v2_arg (a : Ref sig .tc) (h : a ∈ argRefs) : V2 m ρ c a = m ((c : Thread nD τ).loc a) := W2_args m ρ c a h

theorem m1 : mV (V1 m ρ) c = M m c := by unfold mV; rw [v1_arg m ρ c main_arg1 (by decide)]
theorem w1 : wV (V1 m ρ) c = Wi m c := by unfold wV; rw [v1_arg m ρ c main_arg4 (by decide)]
theorem o1 : oV (V1 m ρ) c = Wo m c := by unfold oV; rw [v1_arg m ρ c main_arg6 (by decide)]
theorem x1 : xV (V1 m ρ) c = X m c := by unfold xV; rw [v1_arg m ρ c main_arg0 (by decide)]
theorem a1 : aV (V1 m ρ) c = F1 m c := by unfold aV; rw [v1_arg m ρ c main_arg8 (by decide)]
theorem b1 : bV (V1 m ρ) c = F2 m c := by unfold bV; rw [v1_arg m ρ c main_arg10 (by decide)]
theorem m2 : mV (V2 m ρ) c = M m c := by unfold mV; rw [v2_arg m ρ c main_arg1 (by decide)]

theorem h2 (i l : Fin 256) : hV (V2 m ρ) c i l = hK (M m c) (Wi m c) (Wo m c) (X m c i) l := by
  have e := h_arr (V1 m ρ) c i l
  rw [m1, w1, o1, x1] at e
  rw [← e]
  exact congrFun (hF0 m ρ c 5).symm (ix2 i l)

theorem s2 (i : Fin 256) : sV (V2 m ρ) c i = surpK (M m c) (X m c i) := by
  have e := surp_arr (V1 m ρ) c i 0
  rw [m1, x1] at e
  rw [← e]
  exact congrFun (hF0 m ρ c 6).symm (ix2 i 0)

theorem sc2 (a : Fin 16) (b : Fin 128) : scV (V2 m ρ) c a b = Sc m c ⟨128 * a.val + b.val, by omega⟩ := by
  have e : V2 m ρ c main_v0 = W1 m ρ c (Proc.devRef .tc main_v0) := W2_of m ρ c main_v0 (by decide)
  have e2 : (W1 m ρ c (Proc.devRef .tc main_v0) : S16x128.Idx → EReal) (ix2 a b) = Sc m c ⟨128 * a.val + b.val, by omega⟩ := by
    after_reads_at
    rw [show (⟨a.val * 128 + b.val, by omega⟩ : Fin 2048) = ⟨128 * a.val + b.val, by omega⟩ from Fin.ext (by dsimp only; omega)]
  show (V2 m ρ c main_v0 : S16x128.Idx → EReal) (ix2 a b) = _
  rw [e]
  exact e2

/-- The kernel's results are the answer. -/
theorem answer : Answer (X m c) (M m c) (Wi m c) (Wo m c) (F1 m c) (F2 m c) (Sc m c)
    (tab 256 256 (W4 m ρ c (Proc.devRef .tc main_v1_0))) (tab 2048 256 (W4 m ρ c (Proc.devRef .tc main_v2_0)))
    (tab 2048 256 (W4 m ρ c (Proc.devRef .tc main_v2_1))) (fun k => (W4 m ρ c (Proc.devRef .tc main_v3) : S2048.Idx → EReal) (ix1 k)) where
  rows i l := by
    have e := out_arr (V1 m ρ) c i l
    rw [m1, w1, o1, x1, a1, b1] at e
    rw [← e]
    refine (congrFun ((W4_of m ρ c main_v1_0 (by decide)).trans ((W3_of m ρ c main_v1_0 (by decide)).trans (hF0 m ρ c 4).symm)) (ix2 i l))
  mems k l := by
    have e := mem_arr (V2 m ρ) c k l
    rw [m2, show hV (V2 m ρ) c = _ from funext fun i => funext (h2 m ρ c i), show sV (V2 m ρ) c = _ from funext (s2 m ρ c)] at e
    have e2 : (dat1 (V2 m ρ) c).arrAt 4 cfg1.N = W4 m ρ c (Proc.devRef .tc main_v2_0) := (W4_of m ρ c main_v2_0 (by decide) |>.trans (hF1 m ρ c 4).symm).symm
    rw [e2] at e
    exact e
  moms k l := by
    have e := mom_arr (V2 m ρ) c k l
    rw [m2, show hV (V2 m ρ) c = _ from funext fun i => funext (h2 m ρ c i), show sV (V2 m ρ) c = _ from funext (s2 m ρ c)] at e
    have e2 : (dat1 (V2 m ρ) c).arrAt 5 cfg1.N = W4 m ρ c (Proc.devRef .tc main_v2_1) := (W4_of m ρ c main_v2_1 (by decide) |>.trans (hF1 m ρ c 5).symm).symm
    rw [e2] at e
    exact e
  scs k := by
    obtain ⟨a, b, rfl⟩ : ∃ (a : Fin 16) (b : Fin 128), k = ⟨128 * a.val + b.val, by omega⟩ :=
      ⟨⟨k.val / 128, by omega⟩, ⟨k.val % 128, by omega⟩, Fin.ext (by dsimp only; omega)⟩
    have e := sc_arr (V2 m ρ) c a b
    rw [sc2, show sV (V2 m ρ) c = _ from funext (s2 m ρ c)] at e
    have e2 : (dat1 (V2 m ρ) c).arrAt 6 cfg1.N = W3 m ρ c (Proc.devRef .tc main_v2_2) := hF1 m ρ c 6
    rw [e2] at e
    have e3 : (W4 m ρ c (Proc.devRef .tc main_v3) : S2048.Idx → EReal) (ix1 ⟨128 * a.val + b.val, by omega⟩)
        = (W3 m ρ c (Proc.devRef .tc main_v2_2) : S16x128.Idx → EReal) (ix2 a b) := by
      after_reads_at
    rw [e3]
    exact e

end Cert.Proof.KernelRun

end
-- ==== Proof.RefScatter.lean ====
/- A scatter of one row, or of one entry, at an index word, and a slice that starts at one: read at an entry. -/
module

public import proofs.«01_k».proof.Proof.Gen.ReferenceIdeal.Run
public import Idealize.ShloMosaic.Lib.Routing.OpsOne
public import Idealize.ShloMosaic.Lib.Routing.OpsPair
public import Idealize.ShloMosaic.Lib.DynamicIndex
public import Idealize.ShloMosaic.Lib.Pointwise

@[expose] public section

noncomputable section

open Idealize.ShloMosaic Idealize.ShloMosaic.Pointwise

namespace Cert.Proof.RefScatter

open Cert.ReferenceIdeal Cert.ReferenceIdeal.Gen

/-- The one index of a scalar. -/
theorem point (j : S_.Idx) : j = ix0 := funext fun a => a.elim0

/-- Folding over distinct positions of which one alone acts. -/
theorem fold_one {ι α : Type} (P : ι → Prop) [DecidablePred P] (g : ι → α → α) (i : ι) (hP : ∀ j, P j ↔ j = i) :
    ∀ (L : List ι) (_ : L.Nodup) (a : α), L.foldl (fun a j => if P j then g j a else a) a = (open Classical in if i ∈ L then g i a else a)
  | [], _, a => by simp
  | j :: L, h, a => by
    rw [List.foldl_cons, fold_one P g i hP L (List.nodup_cons.mp h).2]
    by_cases e : j = i
    · subst e
      rw [if_pos ((hP j).mpr rfl), if_neg (List.nodup_cons.mp h).1, if_pos List.mem_cons_self]
    · rw [if_neg fun q => e ((hP j).mp q)]
      have : (i ∈ j :: L) ↔ i ∈ L := by
        rw [List.mem_cons]; exact or_iff_right fun q => e q.symm
      by_cases q : i ∈ L
      · rw [if_pos q, if_pos (this.mpr q)]
      · rw [if_neg q, if_neg fun q' => q (this.mp q')]

/-- A scatter, at an entry where one update alone lands. -/
theorem scatter_hit {α : Type} {s si u : Shape} {w : Nat} (d : ScatterDims s si u) (f : α → α → α) (x : s.Idx → α) (idx : IVec si w) (upd : u.Idx → α)
    (e : s.Idx) (k : u.Idx) (h : ∀ j, d.resultIdx? j idx = some e ↔ j = k) : Host.scatter d f x idx upd e = f (x e) (upd k) := by
  rw [Routing.scatter_at]
  have := fold_one (fun n => d.resultIdx? (u.rowMajor.symm n) idx = some e) (fun n a => f a (upd (u.rowMajor.symm n))) (u.rowMajor k)
    (fun n => by rw [h]; exact Equiv.symm_apply_eq _) (List.finRange u.numel) (List.nodup_finRange _) (x e)
  rw [this, if_pos (List.mem_finRange _), Equiv.symm_apply_apply]

/-- A scatter, at an entry where no update lands. -/
theorem scatter_miss {α : Type} {s si u : Shape} {w : Nat} (d : ScatterDims s si u) (f : α → α → α) (x : s.Idx → α) (idx : IVec si w) (upd : u.Idx → α)
    (e : s.Idx) (h : ∀ j, d.resultIdx? j idx ≠ some e) : Host.scatter d f x idx upd e = x e := by
  rw [Routing.scatter_at]
  generalize List.finRange u.numel = L
  induction L with
  | nil => rfl
  | cons n L ih => rw [List.foldl_cons, if_neg (h _), ih]

/-- Where entry `c` of the one row lands: in the row of the index word, at column `c`. -/
theorem row_lands (idx : S1.Idx → BitVec 32) (n : ℕ) (hi : (idx (ix1 0)).toInt = (n : ℤ)) (c l : Fin 256) (r : Fin 2048) :
    scatter_S2048x256_S1_S256_0_0_0_0.resultIdx? (ix1 c) idx = some (ix2 r l) ↔ r.val = n ∧ c = l := by
  have w0 : scatter_S2048x256_S1_S256_0_0_0_0.window (ix1 c) 0 = 0 := rfl
  have w1 : scatter_S2048x256_S1_S256_0_0_0_0.window (ix1 c) 1 = c.val := rfl
  have s0 : scatter_S2048x256_S1_S256_0_0_0_0.start (ix1 c) idx 0 = (n : ℤ) := by
    rw [← hi]
    show (idx _).toInt = (idx _).toInt
    congr 2
    funext b
    match b with
    | ⟨0, _⟩ => exact Subsingleton.elim (α := Fin 1) _ _
  have s1 : scatter_S2048x256_S1_S256_0_0_0_0.start (ix1 c) idx 1 = 0 := rfl
  rw [Fin.ext_iff, Routing.resultIdx?_eq_some]
  constructor
  · intro h
    have h0 := h 0
    have h1 := h 1
    rw [w0, s0] at h0
    rw [w1, s1] at h1
    change (n : ℤ) + (0 : ℕ) = (r.val : ℤ) at h0
    change (0 : ℤ) + (c.val : ℕ) = (l.val : ℤ) at h1
    omega
  · rintro ⟨h0, h1⟩ a
    match a with
    | ⟨0, _⟩ =>
      refine (congrArg₂ (fun (a : ℤ) (b : ℕ) => a + (b : ℤ)) s0 w0).trans ?_
      show (n : ℤ) + (0 : ℕ) = (r.val : ℤ)
      omega
    | ⟨1, _⟩ =>
      refine (congrArg₂ (fun (a : ℤ) (b : ℕ) => a + (b : ℤ)) s1 w1).trans ?_
      show (0 : ℤ) + (c.val : ℕ) = (l.val : ℤ)
      omega

/-- A row scattered at row `n`: combined with that row, the other rows unchanged. -/
theorem row_scatter (f : EReal → EReal → EReal) (x : S2048x256.Idx → EReal) (idx : S1.Idx → BitVec 32) (upd : S256.Idx → EReal) (n : ℕ)
    (hi : (idx (ix1 0)).toInt = (n : ℤ)) (r : Fin 2048) (l : Fin 256) :
    Host.scatter scatter_S2048x256_S1_S256_0_0_0_0 f x idx upd (ix2 r l) = if r.val = n then f (x (ix2 r l)) (upd (ix1 l)) else x (ix2 r l) := by
  have e : ∀ j : S256.Idx, scatter_S2048x256_S1_S256_0_0_0_0.resultIdx? j idx = some (ix2 r l) ↔ r.val = n ∧ j = ix1 l := fun j => by
    obtain ⟨c, rfl⟩ : ∃ c : Fin 256, j = ix1 c := ⟨j 0, eq_ix1 j⟩
    rw [row_lands idx n hi]
    exact and_congr_right' ⟨fun q => congrArg ix1 q, fun q => congrFun q 0⟩
  by_cases h : r.val = n
  · rw [if_pos h]
    exact scatter_hit _ f x idx upd _ _ fun j => (e j).trans (and_iff_right h)
  · rw [if_neg h]
    exact scatter_miss _ f x idx upd _ fun j q => h ((e j).mp q).1

/-- An entry scattered at `n`. -/
theorem one_scatter (f : EReal → EReal → EReal) (x : S2048.Idx → EReal) (idx : S1.Idx → BitVec 32) (upd : S_.Idx → EReal) (n : ℕ) (hn : n < 2048)
    (hi : (idx (ix1 0)).toInt = (n : ℤ)) (r : Fin 2048) :
    Host.scatter scatter_S2048_S1_S__n_0_0_0 f x idx upd (ix1 r) = if r.val = n then f (x (ix1 r)) (upd ix0) else x (ix1 r) := by
  have e : ∀ j : S_.Idx, scatter_S2048_S1_S__n_0_0_0.resultIdx? j idx = some (ix1 r) ↔ r.val = n := fun j => by
    have q := Routing.lands_one scatter_S2048_S1_S__n_0_0_0 rfl rfl idx ⟨n, hn⟩ hi r
    rw [Fin.ext_iff] at q
    rw [point j]
    exact q
  by_cases h : r.val = n
  · rw [if_pos h]
    exact scatter_hit _ f x idx upd _ _ fun j => (e j).trans ⟨fun _ => point j, fun _ => h⟩
  · rw [if_neg h]
    exact scatter_miss _ f x idx upd _ fun j q => h ((e j).mp q)

/-- An index word below 2048 survives the wrap of negative ones. -/
theorem wrap (p : S_.Idx → BitVec 32) (n : ℕ) (hn : n < 2048) (hp : p ix0 = BitVec.ofNat 32 n) (i : S_.Idx) :
    (select (cmpi .slt p (constantI S_ 32 0#32)) (addi p (constantI S_ 32 2048#32)) p i).toInt = (n : ℤ) := by
  have e : (p i).toInt = (n : ℤ) := by rw [point i, hp]; exact toInt_ofNat_of_lt (by omega)
  rw [select_slt_zero_of_nonneg p _ p i (by omega), e]

/-- The start of a slice of one row. -/
theorem row_slice {R : ℕ} (h) (x : (⟨2, ![R, 256]⟩ : Shape).Idx → EReal) (st : Fin 2 → ℤ) (n : ℕ) (hn : n < R) (h0 : st 0 = (n : ℤ)) (h1 : st 1 = 0)
    (l : Fin 256) (p q) :
    x (ix2 ⟨Host.clampedStart (⟨2, ![R, 256]⟩ : Shape) S1x256 h st 0, p⟩ ⟨Host.clampedStart (⟨2, ![R, 256]⟩ : Shape) S1x256 h st 1 + l.val, q⟩) = x (ix2 ⟨n, hn⟩ l) := by
  congr 2
  · refine Fin.ext ?_
    exact Host.clampedStart_of_le h st 0 n h0 (by show n + 1 ≤ R; omega)
  · refine Fin.ext ?_
    show Host.clampedStart _ _ h st 1 + l.val = l.val
    rw [Host.clampedStart_of_le h st 1 0 h1 (by show 0 + 256 ≤ 256; omega), zero_add]

/-- The start of a slice of one entry. -/
theorem one_slice {R : ℕ} (h) (x : (⟨1, ![R]⟩ : Shape).Idx → EReal) (st : Fin 1 → ℤ) (n : ℕ) (hn : n < R) (h0 : st 0 = (n : ℤ)) (p) :
    x (ix1 ⟨Host.clampedStart (⟨1, ![R]⟩ : Shape) S1 h st 0, p⟩) = x (ix1 ⟨n, hn⟩) := by
  congr 2
  exact Fin.ext (Host.clampedStart_of_le h st 0 n h0 (by show n + 1 ≤ R; omega))

end Cert.Proof.RefScatter

end
-- ==== Proof.RefTrip.lean ====
/- One trip of the reference's loop over the source rows: what it reads, and what it leaves in the memory. -/
module

public import Idealize.ShloMosaic.Lib.WordCmp
public import proofs.«01_k».proof.Proof.RefScatter
public import proofs.«01_k».proof.Proof.Spec
public import Idealize.ShloMosaic.Lib.StableHlo.ReadAt

@[expose] public section

set_option maxRecDepth 16384

noncomputable section

open Idealize.ShloMosaic Idealize.ShloMosaic.TcCoe Idealize.SL.Sem Idealize.ShloMosaic.Pointwise Idealize.ShloMosaic.StableHlo

namespace Cert.Proof.RefTrip

open Cert.ReferenceIdeal Cert.ReferenceIdeal.Gen Cert.ReferenceIdeal.Value Cert.Proof.Model Cert.Proof.Compact Cert.Proof.RefScatter

/-- An array's entries, as numbers. -/
abbrev at0 (x : S_.Idx → EReal) : EReal := x ix0
abbrev at1 {n : ℕ} (x : (⟨1, ![n]⟩ : Shape).Idx → EReal) (i : Fin n) : EReal := x (ix1 i)
abbrev at2 {a b : ℕ} (x : (⟨2, ![a, b]⟩ : Shape).Idx → EReal) (i : Fin a) (j : Fin b) : EReal := x (ix2 i j)

/-- A pointer to slot 0 of a full memory: a whole number of turns, at least one, and room for the rows to come. -/
structure Base (P : ℕ) : Prop where
  full : 2048 ≤ P
  whole : P % 2048 = 0
  room : P + 2048 ≤ 2 ^ 31

/-- The words of the trip: a full memory is not below its size, and the next slot is the pointer modulo the size. -/
theorem full_word {N : ℕ} (h1 : 2048 ≤ N) (h2 : N < 2 ^ 31) : IntOp.cmpi CmpIPredicate.slt (BitVec.ofNat 32 N) 2048#32 = 0#1 := by
  rw [WordCmp.cmpi_slt_ofNat (by simpa using h2) (by norm_num), decide_eq_false (by omega)]
  rfl

theorem rem_word {N : ℕ} (h : N < 2 ^ 31) (d : BitVec 32) (hd : d = 2048#32) : IntOp.remsi ArithUnit.host (BitVec.ofNat 32 N) d = BitVec.ofNat 32 (N % 2048) := by
  subst hd
  have hN : (BitVec.ofNat 32 N).toNat = N := by rw [BitVec.toNat_ofNat]; exact Nat.mod_eq_of_lt (by omega)
  have hr : (BitVec.ofNat 32 (N % 2048)).toNat = N % 2048 := by rw [BitVec.toNat_ofNat]; exact Nat.mod_eq_of_lt (by omega)
  refine BitVec.eq_of_toNat_eq ?_
  rw [hr, IntOp.toNat_remsi .host (by rw [hN]; omega) 2048 (by norm_num) (by norm_num), hN]

theorem slot_word : ∀ r : Fin 257,
    Scalar.select
      (IntOp.andi
        (IntOp.cmpi CmpIPredicate.ne
          (IntOp.cmpi CmpIPredicate.slt (BitVec.ofNat 32 r.val) 0#32)
          (IntOp.cmpi CmpIPredicate.slt (Scalar.select (IntOp.cmpi CmpIPredicate.eq 2048#32 0#32) (1#32) 2048#32) 0#32))
        (IntOp.cmpi CmpIPredicate.ne (BitVec.ofNat 32 r.val) 0#32))
      (IntOp.addi (BitVec.ofNat 32 r.val) (Scalar.select (IntOp.cmpi CmpIPredicate.eq 2048#32 0#32) (1#32) 2048#32))
      (BitVec.ofNat 32 r.val)
    = BitVec.ofNat 32 r.val := by decide +kernel

/-- A choice by a proposition's bit. -/
theorem pick {α : Type} (p : Prop) [Decidable p] (a b : α) : Scalar.select (BitVec.ofBool (decide p)) a b = if p then a else b := by
  by_cases h : p <;> simp [Scalar.select, h]

theorem or_zero : ∀ b : BitVec 1, IntOp.ori b 0#1 = b := by decide

variable (V : Valuation τ sig (Elt Ideal))

/-- The trip's row of the attended rows. -/
theorem row_at (k : ℕ) (hk : k < 256) (hc : (V (Proc.devRef .tc main_v116_2) : S_.Idx → BitVec 32) ix0 = BitVec.ofNat 32 k) (l : Fin 256) :
    (after while0Ops0 V (Proc.devRef .tc main_while0b_v153) : S256.Idx → EReal) (ix1 l)
      = (V (Proc.devRef .tc main_v116_0) : S256x256.Idx → EReal) (ix2 ⟨k, hk⟩ l) := by
  after_reads_simp [unaryIndexed_result_read, indexContents_tref_cons, indexContents_tref_empty, indexContents_cons, indexContents_empty]
  simp -implicitDefEqProofs only [StableHlo.TRef.toBuf, StableHlo.TRef.ofBuf, cast_cast, cast_eq]
  clean_types
  pointwise
  refine row_slice _ _ _ k hk ?_ rfl l _ _
  show BitVec.toInt ((V (Proc.devRef .tc main_v116_2) : S_.Idx → BitVec 32) _) = _
  rw [point (Shape.Idx.first h_S_), hc]
  exact toInt_ofNat_of_lt (by omega)

/-- The trip's surprise. -/
theorem surp_at (k : ℕ) (hk : k < 256) (hc : (V (Proc.devRef .tc main_v116_2) : S_.Idx → BitVec 32) ix0 = BitVec.ofNat 32 k) :
    (after while0Ops0_1 V (Proc.devRef .tc main_while0b_v154) : S_.Idx → EReal) ix0
      = (V (Proc.devRef .tc main_v116_1) : S256.Idx → EReal) (ix1 ⟨k, hk⟩) := by
  after_reads_simp [unaryIndexed_result_read, indexContents_tref_cons, indexContents_tref_empty, indexContents_cons, indexContents_empty]
  simp -implicitDefEqProofs only [StableHlo.TRef.toBuf, StableHlo.TRef.ofBuf, cast_cast, cast_eq]
  clean_types
  pointwise
  refine one_slice _ _ _ k hk ?_ _
  show BitVec.toInt ((V (Proc.devRef .tc main_v116_2) : S_.Idx → BitVec 32) _) = _
  rw [point (Shape.Idx.first h_S_), hc]
  exact toInt_ofNat_of_lt (by omega)

/-- A full memory writes the surprising rows alone. -/
theorem cond_at {P : ℕ} (B : Base P) (n : ℕ) (hn : n < 257) (hp : (V (Proc.devRef .tc main_v116_6) : S_.Idx → BitVec 32) ix0 = BitVec.ofNat 32 (P + n)) :
    (after while0Ops0_2 V (Proc.devRef .tc main_while0b_v157) : S_.Idx → BitVec 1) ix0
      = BitVec.ofBool (decide (cH < at0 (V (Proc.devRef .tc main_while0b_v154)))) := by
  after_reads_at
  rw [hp, full_word (by have := B.full; omega) (by have := B.room; omega), or_zero]

/-- The slot that comes next. -/
theorem next_at {P : ℕ} (B : Base P) (n : ℕ) (hn : n < 257) (hp : (V (Proc.devRef .tc main_v116_6) : S_.Idx → BitVec 32) ix0 = BitVec.ofNat 32 (P + n))
    (hc : (V (Proc.devRef .tc main_while0b_c_29) : S_.Idx → BitVec 32) ix0 = 2048#32) :
    (after while0Ops0_3 V (Proc.devRef .tc main_while0b_v158) : S_.Idx → BitVec 32) ix0 = BitVec.ofNat 32 n := by
  after_reads_at
  simp only [id_eq]
  rw [hp, hc, rem_word (by have := B.room; omega) _ (by decide), show (P + n) % 2048 = n by have := B.whole; omega]
  exact slot_word ⟨n, hn⟩

/-- The trip's second part: the writes. -/
abbrev rest (V : Valuation τ sig (Elt Ideal)) : Valuation τ sig (Elt Ideal) :=
  afterL [while0Ops0_4, while0Ops0_5, while0Ops0_6, while0Ops0_7, while0Ops0_8, while0Ops0_9, while0Ops0_10] V

/-- A row of the memory after the trip: the next slot's row moves when the row is surprising. -/
theorem mem_at (n : ℕ) (hn : n < 2048) (q : Prop) [Decidable q] (hp : (V (Proc.devRef .tc main_while0b_v158) : S_.Idx → BitVec 32) ix0 = BitVec.ofNat 32 n)
    (hq : (V (Proc.devRef .tc main_while0b_v157) : S_.Idx → BitVec 1) ix0 = BitVec.ofBool (decide q)) (r : Fin 2048) (l : Fin 256) :
    at2 (rest V (Proc.devRef .tc main_v116_3)) r l
      = if r.val = n then at2 (V (Proc.devRef .tc main_v116_3)) r l + (if q then
          cL * (cM * at2 (V (Proc.devRef .tc main_v116_4)) ⟨n, hn⟩ l + cL * (at1 (V (Proc.devRef .tc main_while0b_v153)) l - at2 (V (Proc.devRef .tc main_v116_3)) ⟨n, hn⟩ l)) else 0)
        else at2 (V (Proc.devRef .tc main_v116_3)) r l := by
  simp only [rest, afterL_cons, afterL_nil]
  after_reads_simp [unaryIndexed_result_read, indexContents_tref_cons, indexContents_tref_empty, indexContents_cons, indexContents_empty]
  simp -implicitDefEqProofs only [StableHlo.TRef.toBuf, StableHlo.TRef.ofBuf, cast_cast, cast_eq, id_eq]
  clean_types
  refine (row_scatter _ _ _ _ n ?_ r l).trans ?_
  · exact wrap _ n hn hp _
  · pointwise
    rw [row_slice _ (V (Proc.devRef .tc main_v116_4) : S2048x256.Idx → EReal) _ n hn, row_slice _ (V (Proc.devRef .tc main_v116_3) : S2048x256.Idx → EReal) _ n hn]
    · rw [hq, pick]
    · exact wrap _ n hn hp _
    · rfl
    · exact wrap _ n hn hp _
    · rfl

/-- A row of the momentum after the trip. -/
theorem mom_at (n : ℕ) (hn : n < 2048) (q : Prop) [Decidable q] (hp : (V (Proc.devRef .tc main_while0b_v158) : S_.Idx → BitVec 32) ix0 = BitVec.ofNat 32 n)
    (hq : (V (Proc.devRef .tc main_while0b_v157) : S_.Idx → BitVec 1) ix0 = BitVec.ofBool (decide q)) (r : Fin 2048) (l : Fin 256) :
    at2 (rest V (Proc.devRef .tc main_v116_4)) r l
      = if r.val = n then (if q then
          cM * at2 (V (Proc.devRef .tc main_v116_4)) ⟨n, hn⟩ l + cL * (at1 (V (Proc.devRef .tc main_while0b_v153)) l - at2 (V (Proc.devRef .tc main_v116_3)) ⟨n, hn⟩ l)
          else at2 (V (Proc.devRef .tc main_v116_4)) ⟨n, hn⟩ l)
        else at2 (V (Proc.devRef .tc main_v116_4)) r l := by
  simp only [rest, afterL_cons, afterL_nil]
  after_reads_simp [unaryIndexed_result_read, indexContents_tref_cons, indexContents_tref_empty, indexContents_cons, indexContents_empty]
  simp -implicitDefEqProofs only [StableHlo.TRef.toBuf, StableHlo.TRef.ofBuf, cast_cast, cast_eq, id_eq]
  clean_types
  refine (row_scatter _ _ _ _ n ?_ r l).trans ?_
  · exact wrap _ n hn hp _
  · pointwise
    rw [row_slice _ (V (Proc.devRef .tc main_v116_4) : S2048x256.Idx → EReal) _ n hn, row_slice _ (V (Proc.devRef .tc main_v116_3) : S2048x256.Idx → EReal) _ n hn]
    · rw [hq, pick]
    · exact wrap _ n hn hp _
    · rfl
    · exact wrap _ n hn hp _
    · rfl

/-- A score after the trip. -/
theorem score_at (n : ℕ) (hn : n < 2048) (q : Prop) [Decidable q] (hp : (V (Proc.devRef .tc main_while0b_v158) : S_.Idx → BitVec 32) ix0 = BitVec.ofNat 32 n)
    (hq : (V (Proc.devRef .tc main_while0b_v157) : S_.Idx → BitVec 1) ix0 = BitVec.ofBool (decide q)) (r : Fin 2048) :
    at1 (rest V (Proc.devRef .tc main_v116_5)) r
      = if r.val = n then (if q then at0 (V (Proc.devRef .tc main_while0b_v154)) else at1 (V (Proc.devRef .tc main_v116_5)) ⟨n, hn⟩)
        else at1 (V (Proc.devRef .tc main_v116_5)) r := by
  simp only [rest, afterL_cons, afterL_nil]
  after_reads_simp [unaryIndexed_result_read, indexContents_tref_cons, indexContents_tref_empty, indexContents_cons, indexContents_empty]
  simp -implicitDefEqProofs only [StableHlo.TRef.toBuf, StableHlo.TRef.ofBuf, cast_cast, cast_eq, id_eq]
  clean_types
  refine (one_scatter _ _ _ _ n hn ?_ r).trans ?_
  · exact wrap _ n hn hp _
  · pointwise
    rw [one_slice _ (V (Proc.devRef .tc main_v116_5) : S2048.Idx → EReal) _ n hn]
    · rw [hq, pick]
    · exact wrap _ n hn hp _

/-- The pointer after the trip. -/
theorem ptr_at (n : ℕ) (q : Prop) [Decidable q] (hp : (V (Proc.devRef .tc main_v116_6) : S_.Idx → BitVec 32) ix0 = BitVec.ofNat 32 n)
    (hq : (V (Proc.devRef .tc main_while0b_v157) : S_.Idx → BitVec 1) ix0 = BitVec.ofBool (decide q)) :
    (rest V (Proc.devRef .tc main_v116_6) : S_.Idx → BitVec 32) ix0 = BitVec.ofNat 32 (n + if q then 1 else 0) := by
  simp only [rest, afterL_cons, afterL_nil]
  after_reads_at
  simp only [id_eq]
  pointwise
  rw [hp, hq]
  by_cases h : q
  · simp [h, IntOp.addi, BitVec.ofNat_add]
  · simp [h, IntOp.addi]

/-- What the trip's second part leaves. -/
theorem rest_rows : rest V (Proc.devRef .tc main_v116_0) = V (Proc.devRef .tc main_v116_0) := by
  simp only [rest, afterL_cons, afterL_nil]
  after_reads_simp
theorem rest_surp : rest V (Proc.devRef .tc main_v116_1) = V (Proc.devRef .tc main_v116_1) := by
  simp only [rest, afterL_cons, afterL_nil]
  after_reads_simp

/-- The trip's first part: the row, its surprise, and the slot that comes next. -/
abbrev first (V : Valuation τ sig (Elt Ideal)) : Valuation τ sig (Elt Ideal) :=
  after while0Ops0_3 (after while0Ops0_2 (after while0Ops0_1 (after while0Ops0 V)))

/-- What the trip's first part leaves. -/
theorem first_rows : first V (Proc.devRef .tc main_v116_0) = V (Proc.devRef .tc main_v116_0) := by after_reads_simp
theorem first_surp : first V (Proc.devRef .tc main_v116_1) = V (Proc.devRef .tc main_v116_1) := by after_reads_simp
theorem first_mem : first V (Proc.devRef .tc main_v116_3) = V (Proc.devRef .tc main_v116_3) := by after_reads_simp
theorem first_mom : first V (Proc.devRef .tc main_v116_4) = V (Proc.devRef .tc main_v116_4) := by after_reads_simp
theorem first_score : first V (Proc.devRef .tc main_v116_5) = V (Proc.devRef .tc main_v116_5) := by after_reads_simp
theorem first_ptr : first V (Proc.devRef .tc main_v116_6) = V (Proc.devRef .tc main_v116_6) := by after_reads_simp

/-- What the trip's second part reads of its first. -/
theorem first_row (k : ℕ) (hk : k < 256) (hc : (V (Proc.devRef .tc main_v116_2) : S_.Idx → BitVec 32) ix0 = BitVec.ofNat 32 k) (l : Fin 256) :
    at1 (first V (Proc.devRef .tc main_while0b_v153)) l = at2 (V (Proc.devRef .tc main_v116_0)) ⟨k, hk⟩ l := by
  have e : first V (Proc.devRef .tc main_while0b_v153) = after while0Ops0 V (Proc.devRef .tc main_while0b_v153) := by
    rw [show first V = after while0Ops0_3 (after while0Ops0_2 (after while0Ops0_1 (after while0Ops0 V))) from rfl,
      after_of_writes_sub _ _ while0Ops0_3_writes (by decide), after_of_writes_sub _ _ while0Ops0_2_writes (by decide),
      after_of_writes_sub _ _ while0Ops0_1_writes (by decide)]
  rw [e]
  exact row_at V k hk hc l

theorem first_one (k : ℕ) (hk : k < 256) (hc : (V (Proc.devRef .tc main_v116_2) : S_.Idx → BitVec 32) ix0 = BitVec.ofNat 32 k) :
    at0 (after while0Ops0_1 (after while0Ops0 V) (Proc.devRef .tc main_while0b_v154)) = at1 (V (Proc.devRef .tc main_v116_1)) ⟨k, hk⟩ := by
  have e : ∀ r : Ref sig .tc, r ∉ while0Ops0_W → after while0Ops0 V (Proc.devRef .tc r) = V (Proc.devRef .tc r) := fun r hr =>
    after_of_writes_sub _ _ while0Ops0_writes hr
  refine (surp_at (after while0Ops0 V) k hk ?_).trans ?_
  · rw [e _ (by decide), hc]
  · rw [e _ (by decide)]

/-- The first part's decision, slot and surprise. -/
theorem first_cond {P : ℕ} (B : Base P) (k n : ℕ) (hk : k < 256) (hn : n < 257) (hc : (V (Proc.devRef .tc main_v116_2) : S_.Idx → BitVec 32) ix0 = BitVec.ofNat 32 k)
    (hp : (V (Proc.devRef .tc main_v116_6) : S_.Idx → BitVec 32) ix0 = BitVec.ofNat 32 (P + n)) :
    (first V (Proc.devRef .tc main_while0b_v157) : S_.Idx → BitVec 1) ix0 = BitVec.ofBool (decide (cH < at1 (V (Proc.devRef .tc main_v116_1)) ⟨k, hk⟩)) := by
  have e : first V (Proc.devRef .tc main_while0b_v157) = after while0Ops0_2 (after while0Ops0_1 (after while0Ops0 V)) (Proc.devRef .tc main_while0b_v157) := by
    rw [show first V = after while0Ops0_3 (after while0Ops0_2 (after while0Ops0_1 (after while0Ops0 V))) from rfl,
      after_of_writes_sub _ _ while0Ops0_3_writes (by decide)]
  rw [e]
  refine (cond_at _ B n hn ?_).trans ?_
  · rw [after_of_writes_sub _ _ while0Ops0_1_writes (by decide), after_of_writes_sub _ _ while0Ops0_writes (by decide), hp]
  · rw [first_one V k hk hc]

theorem first_next {P : ℕ} (B : Base P) (n : ℕ) (hn : n < 257) (hp : (V (Proc.devRef .tc main_v116_6) : S_.Idx → BitVec 32) ix0 = BitVec.ofNat 32 (P + n)) :
    (first V (Proc.devRef .tc main_while0b_v158) : S_.Idx → BitVec 32) ix0 = BitVec.ofNat 32 n := by
  refine next_at _ B n hn ?_ ?_
  · rw [after_of_writes_sub _ _ while0Ops0_2_writes (by decide), after_of_writes_sub _ _ while0Ops0_1_writes (by decide),
      after_of_writes_sub _ _ while0Ops0_writes (by decide), hp]
  · after_reads_at

theorem first_score1 (k : ℕ) (hk : k < 256) (hc : (V (Proc.devRef .tc main_v116_2) : S_.Idx → BitVec 32) ix0 = BitVec.ofNat 32 k) :
    at0 (first V (Proc.devRef .tc main_while0b_v154)) = at1 (V (Proc.devRef .tc main_v116_1)) ⟨k, hk⟩ := by
  have e : first V (Proc.devRef .tc main_while0b_v154) = after while0Ops0_1 (after while0Ops0 V) (Proc.devRef .tc main_while0b_v154) := by
    rw [show first V = after while0Ops0_3 (after while0Ops0_2 (after while0Ops0_1 (after while0Ops0 V))) from rfl,
      after_of_writes_sub _ _ while0Ops0_3_writes (by decide), after_of_writes_sub _ _ while0Ops0_2_writes (by decide)]
  rw [e]
  exact first_one V k hk hc

/-- What holds of the loop's buffers after the first `n` rows: the rows and the surprises are as given, the pointer has moved
    by as many as were written, and each slot holds its writer's value or its old one. -/
structure Inv (P : ℕ) (s : Fin 256 → EReal) (H : Fin 256 → Fin 256 → EReal) (M : Fin 2048 → Fin 256 → EReal) (Sc : Fin 2048 → EReal) (n : ℕ)
    (V : Valuation τ sig (Elt Ideal)) : Prop where
  rows : ∀ i l, at2 (V (Proc.devRef .tc main_v116_0)) i l = H i l
  surp : ∀ i, at1 (V (Proc.devRef .tc main_v116_1)) i = s i
  ptr : (V (Proc.devRef .tc main_v116_6) : S_.Idx → BitVec 32) ix0 = BitVec.ofNat 32 (P + rank s n)
  mems : ∀ k l, Slot s n k.val (fun i => M k l + cL * (cL * (H i l - M k l))) (M k l) (at2 (V (Proc.devRef .tc main_v116_3)) k l)
  moms : ∀ k l, Slot s n k.val (fun i => cL * (H i l - M k l)) 0 (at2 (V (Proc.devRef .tc main_v116_4)) k l)
  scs : ∀ k, Slot s n k.val s (Sc k) (at1 (V (Proc.devRef .tc main_v116_5)) k)

/-- One trip, from what holds after `n` rows to what holds after one more. -/
theorem Inv.step {P : ℕ} (B : Base P) {s : Fin 256 → EReal} {H : Fin 256 → Fin 256 → EReal} {M : Fin 2048 → Fin 256 → EReal} {Sc : Fin 2048 → EReal} {n : ℕ}
    {V : Valuation τ sig (Elt Ideal)} (I : Inv P s H M Sc n V) (hn : n < 256)
    (hc : (V (Proc.devRef .tc main_v116_2) : S_.Idx → BitVec 32) ix0 = BitVec.ofNat 32 n) : Inv P s H M Sc (n + 1) (rest (first V)) := by
  classical
  have hr := rank_le s hn.le
  have hr2 : rank s n < 2048 := by omega
  have hq := first_cond V B n (rank s n) hn (by omega) hc I.ptr
  rw [I.surp] at hq
  have hp := first_next V B (rank s n) (by omega) I.ptr
  have fm : ∀ l, at2 (V (Proc.devRef .tc main_v116_3)) ⟨rank s n, hr2⟩ l = M ⟨rank s n, hr2⟩ l := fun l => (I.mems ⟨rank s n, hr2⟩ l).fresh
  have fv : ∀ l, at2 (V (Proc.devRef .tc main_v116_4)) ⟨rank s n, hr2⟩ l = 0 := fun l => (I.moms ⟨rank s n, hr2⟩ l).fresh
  have fs : at1 (V (Proc.devRef .tc main_v116_5)) ⟨rank s n, hr2⟩ = Sc ⟨rank s n, hr2⟩ := (I.scs ⟨rank s n, hr2⟩).fresh
  have hrow : ∀ l, at1 (first V (Proc.devRef .tc main_while0b_v153)) l = H ⟨n, hn⟩ l := fun l => (first_row V n hn hc l).trans (I.rows _ _)
  refine ⟨fun i l => ?_, fun i => ?_, ?_, fun k l => ?_, fun k l => ?_, fun k => ?_⟩
  · rw [rest_rows, first_rows]; exact I.rows i l
  · rw [rest_surp, first_surp]; exact I.surp i
  · have e := ptr_at (first V) (P + rank s n) (cH < s ⟨n, hn⟩) (by rw [first_ptr]; exact I.ptr) hq
    rw [e, rank_succ s n hn]
    congr 1
    split_ifs <;> omega
  · have e := mem_at (first V) (rank s n) hr2 (cH < s ⟨n, hn⟩) hp hq k l
    rw [first_mem, first_mom, hrow, fm, fv] at e
    rw [e]
    by_cases hk : k.val = rank s n
    · obtain rfl : k = ⟨rank s n, hr2⟩ := Fin.ext hk
      rw [if_pos rfl, fm]
      by_cases h : cH < s ⟨n, hn⟩
      · rw [if_pos h, mul_zero, zero_add]
        exact Slot.write hn h rfl rfl
      · rw [if_neg h, add_zero]
        have := Slot.keep hn (fun q => h q.1) (I.mems ⟨rank s n, hr2⟩ l)
        rw [fm] at this
        exact this
    · rw [if_neg hk]
      exact Slot.keep hn (fun q => hk q.2.symm) (I.mems k l)
  · have e := mom_at (first V) (rank s n) hr2 (cH < s ⟨n, hn⟩) hp hq k l
    rw [first_mem, first_mom, hrow, fm, fv] at e
    rw [e]
    by_cases hk : k.val = rank s n
    · obtain rfl : k = ⟨rank s n, hr2⟩ := Fin.ext hk
      rw [if_pos rfl]
      by_cases h : cH < s ⟨n, hn⟩
      · rw [if_pos h, mul_zero, zero_add]
        exact Slot.write hn h rfl rfl
      · rw [if_neg h]
        have := Slot.keep hn (fun q => h q.1) (I.moms ⟨rank s n, hr2⟩ l)
        rw [fv] at this
        exact this
    · rw [if_neg hk]
      exact Slot.keep hn (fun q => hk q.2.symm) (I.moms k l)
  · have e := score_at (first V) (rank s n) hr2 (cH < s ⟨n, hn⟩) hp hq k
    rw [first_score, first_score1 V n hn hc, I.surp, fs] at e
    rw [e]
    by_cases hk : k.val = rank s n
    · obtain rfl : k = ⟨rank s n, hr2⟩ := Fin.ext hk
      rw [if_pos rfl]
      by_cases h : cH < s ⟨n, hn⟩
      · rw [if_pos h]
        exact Slot.write hn h rfl rfl
      · rw [if_neg h]
        have := Slot.keep hn (fun q => h q.1) (I.scs ⟨rank s n, hr2⟩)
        rw [fs] at this
        exact this
    · rw [if_neg hk]
      exact Slot.keep hn (fun q => hk q.2.symm) (I.scs k)

/-- The loop's test leaves what the rows and the slots hold. -/
theorem Inv.cond {P : ℕ} {s : Fin 256 → EReal} {H : Fin 256 → Fin 256 → EReal} {M : Fin 2048 → Fin 256 → EReal} {Sc : Fin 2048 → EReal} {n : ℕ}
    {V : Valuation τ sig (Elt Ideal)} (I : Inv P s H M Sc n V) : Inv P s H M Sc n (after condOps V) := by
  have e : ∀ r : Ref sig .tc, r ∉ condOps_W → after condOps V (Proc.devRef .tc r) = V (Proc.devRef .tc r) := fun r hr =>
    after_of_writes_sub _ _ condOps_writes hr
  refine ⟨fun i l => ?_, fun i => ?_, ?_, fun k l => ?_, fun k l => ?_, fun k => ?_⟩
  · rw [e _ (by decide)]; exact I.rows i l
  · rw [e _ (by decide)]; exact I.surp i
  · rw [e _ (by decide)]; exact I.ptr
  · rw [e _ (by decide)]; exact I.mems k l
  · rw [e _ (by decide)]; exact I.moms k l
  · rw [e _ (by decide)]; exact I.scs k

variable (m : (ℓ : Loc nD τ sig) → Buf (Elt Ideal) ℓ) (c : Dev nD)

/-- What holds after the first `n` rows, from what holds at the loop's entry. -/
theorem inv {P : ℕ} (B : Base P) {s : Fin 256 → EReal} {H : Fin 256 → Fin 256 → EReal} {M : Fin 2048 → Fin 256 → EReal} {Sc : Fin 2048 → EReal}
    (h0 : Inv P s H M Sc 0 (entryContents preI m c)) : ∀ n : ℕ, n ≤ 256 → Inv P s H M Sc n (atK m n c)
  | 0, _ => h0
  | n + 1, hn => by
    have I := (inv B h0 n (by omega)).cond
    refine I.step B (by omega) ?_
    rw [after_of_writes_sub _ _ condOps_writes (by decide), atK_ctr]
    show Scf.iv 0#32 1#32 n = _
    simp [Scf.iv]

end Cert.Proof.RefTrip

end
-- ==== Proof.RefPre.lean ====
/- What the reference holds before its loop: the surprises, and the attended rows. -/
module

public import proofs.«01_k».proof.Proof.RefTrip

@[expose] public section

set_option maxRecDepth 16384

noncomputable section

open Idealize.ShloMosaic Idealize.ShloMosaic.TcCoe Idealize.SL.Sem Idealize.ShloMosaic.Pointwise Idealize.ShloMosaic.StableHlo

namespace Cert.Proof.RefPre

open Cert.ReferenceIdeal Cert.ReferenceIdeal.Gen Cert.ReferenceIdeal.Value Cert.Proof.Model Cert.Proof.Compact Cert.Proof.RefTrip

variable (V : Valuation τ sig (Elt Ideal))

/-- An array of three axes, its entries as numbers. -/
abbrev at3 {a b c : ℕ} (x : (⟨3, ![a, b, c]⟩ : Shape).Idx → EReal) (i : Fin a) (j : Fin b) (k : Fin c) : EReal := x (ix3 i j k)

/-- The parts of the attention: the projections, the logits, the weights, the attended rows, their normalisation. -/
abbrev proj : List (HloOp τ sig (Elt Ideal)) := hostOps0_7.take 36
abbrev lgts : List (HloOp τ sig (Elt Ideal)) := (hostOps0_7.drop 36).take 13
abbrev wts : List (HloOp τ sig (Elt Ideal)) := (hostOps0_7.drop 49).take 14
abbrev attn : List (HloOp τ sig (Elt Ideal)) := (hostOps0_7.drop 63).take 16
abbrev norm : List (HloOp τ sig (Elt Ideal)) := hostOps0_7.drop 79

theorem parts : (hostOps0_7 : List (HloOp τ sig (Elt Ideal))) = proj ++ (lgts ++ (wts ++ (attn ++ norm))) := rfl

/-- A row of the first layer normalisation. -/
theorem norm_at (i l : Fin 256) : at2 (after norm V (Proc.devRef .tc main_v115)) i l
    = lnR (fun l => at2 (V (Proc.devRef .tc main_v91)) i l) l * at1 (V (Proc.devRef .tc main_arg12)) l + at1 (V (Proc.devRef .tc main_arg13)) l := by
  after_reads_at
  rfl

/-- The logits. -/
theorem lgts_at (i : Fin 256) (h : Fin 8) (n : Fin 2049) : at3 (after lgts V (Proc.devRef .tc main_v64)) i h n
    = if hn : n.val < 2048 then (∑ d, at3 (V (Proc.devRef .tc main_v36)) ⟨n.val, hn⟩ h d * at3 (V (Proc.devRef .tc main_v30)) i h d) * cS
      else (∑ d, at3 (V (Proc.devRef .tc main_v30)) i h d * at3 (V (Proc.devRef .tc main_v48)) i h d) * cS := by
  after_reads_at
  after_reads_at

/-- The largest entry of a row. -/
theorem row_max (x : FVec Ideal S256x8x2049 .f32) (i : Fin 256) (h : Fin 8) :
    (Host.reduce FloatOps.maximumf x (constant S_ FTy.f32 4286578688#32) reducesTo_S256x8x2049_S256x8_d2 h_S_ : FVec Ideal S256x8 .f32) (ix2 i h)
      = Finset.fold max cI (fun n => x (ix3 i h n)) Finset.univ := by
  pointwise

/-- A value per head against a constant. -/
theorem max_at (y : FVec Ideal S256x8 .f32) (i : Fin 256) (h : Fin 8) :
    (maximumf (broadcastInDim S256x8 ![] bcast_S_S256x8 (constant S_ .f32 4286578688#32)) y : FVec Ideal S256x8 .f32) (ix2 i h) = max cI (y (ix2 i h)) := by
  pointwise

/-- An exponential of a difference to a value per head. -/
theorem exp_at (x : FVec Ideal S256x8x2049 .f32) (y : FVec Ideal S256x8 .f32) (i : Fin 256) (h : Fin 8) (n : Fin 2049) :
    (Host.exp (subf x (broadcastInDim S256x8x2049 ![0, 1, 2] bcast_S256x8x1_S256x8x2049_0_1_2
      (broadcastInDim S256x8x1 ![0, 1] bcast_S256x8_S256x8x1_0_1 y))) : FVec Ideal S256x8x2049 .f32) (ix3 i h n) = Ideal.exp (x (ix3 i h n) - y (ix2 i h)) := by
  pointwise

/-- A quotient by the row's sum. -/
theorem quot_at (x : FVec Ideal S256x8x2049 .f32) (i : Fin 256) (h : Fin 8) (n : Fin 2049) :
    (Host.divf x (broadcastInDim S256x8x2049 ![0, 1, 2] bcast_S256x8x1_S256x8x2049_0_1_2
      (broadcastInDim S256x8x1 ![0, 1] bcast_S256x8_S256x8x1_0_1
        (Host.reduceAdd x (constant S_ FTy.f32 0#32) reducesTo_S256x8x2049_S256x8_d2 h_S_))) : FVec Ideal S256x8x2049 .f32) (ix3 i h n)
      = Ideal.div (x (ix3 i h n)) (∑ j, x (ix3 i h j)) := by
  pointwise

/-- A row of logits less its largest, exponentiated. -/
abbrev shifted (x : FVec Ideal S256x8x2049 .f32) : FVec Ideal S256x8x2049 .f32 :=
  Host.exp (subf x (broadcastInDim S256x8x2049 ![0, 1, 2] bcast_S256x8x1_S256x8x2049_0_1_2
    (broadcastInDim S256x8x1 ![0, 1] bcast_S256x8_S256x8x1_0_1 (maximumf (broadcastInDim S256x8 ![] bcast_S_S256x8 (constant S_ .f32 4286578688#32))
      (Host.reduce FloatOps.maximumf x (constant S_ FTy.f32 4286578688#32) reducesTo_S256x8x2049_S256x8_d2 h_S_)))))

theorem shifted_at (x : FVec Ideal S256x8x2049 .f32) (i : Fin 256) (h : Fin 8) (n : Fin 2049) :
    shifted x (ix3 i h n) = Ideal.exp (x (ix3 i h n) - max cI (Finset.fold max cI (fun n => x (ix3 i h n)) Finset.univ)) := by
  rw [shifted, exp_at, max_at, row_max]

/-- The weights. -/
theorem wts_at (i : Fin 256) (h : Fin 8) (n : Fin 2049) : at3 (after wts V (Proc.devRef .tc main_v75)) i h n
    = Ideal.div (Ideal.exp (at3 (V (Proc.devRef .tc main_v64)) i h n - max cI (Finset.fold max cI (fun n => at3 (V (Proc.devRef .tc main_v64)) i h n) Finset.univ)))
      (∑ j, Ideal.exp (at3 (V (Proc.devRef .tc main_v64)) i h j - max cI (Finset.fold max cI (fun n => at3 (V (Proc.devRef .tc main_v64)) i h n) Finset.univ))) := by
  after_reads_simp
  refine (quot_at (shifted (V (Proc.devRef .tc main_v64))) i h n).trans ?_
  exact congrArg₂ Ideal.div (shifted_at _ i h n) (Finset.sum_congr rfl fun j _ => shifted_at _ i h j)

/-- The attended rows. -/
theorem attn_at (i l : Fin 256) : at2 (after attn V (Proc.devRef .tc main_v91)) i l
    = at2 (V (Proc.devRef .tc main_arg0)) i l + ((∑ k, (∑ j : Fin 2048, at3 (V (Proc.devRef .tc main_v42)) j (hd k) (hc k) * at3 (V (Proc.devRef .tc main_v75)) i (hd k) j.castSucc
        + at3 (V (Proc.devRef .tc main_v75)) i (hd k) (Fin.last 2048) * at3 (V (Proc.devRef .tc main_v54)) i (hd k) (hc k)) * at2 (V (Proc.devRef .tc main_arg6)) l k)
        + at1 (V (Proc.devRef .tc main_arg7)) l) := by
  after_reads_at
  rfl

/-- The projections. -/
theorem q_at (i : Fin 256) (h : Fin 8) (d : Fin 32) : at3 (after proj V (Proc.devRef .tc main_v30)) i h d
    = dot (at2 (V (Proc.devRef .tc main_arg0)) i) (wq (at2 (V (Proc.devRef .tc main_arg4))) (col h d)) + at1 (V (Proc.devRef .tc main_arg5)) ⟨(col h d).val, by omega⟩ := by
  after_reads_at
  show _ = (∑ x, _ * _) + _
  simp only [at3, at2, at1, wq, col, mul_comm 32]
  rfl
theorem km_at (j : Fin 2048) (h : Fin 8) (d : Fin 32) : at3 (after proj V (Proc.devRef .tc main_v36)) j h d
    = dot (at2 (V (Proc.devRef .tc main_arg1)) j) (wk (at2 (V (Proc.devRef .tc main_arg4))) (col h d)) + at1 (V (Proc.devRef .tc main_arg5)) ⟨256 + (col h d).val, by omega⟩ := by
  after_reads_at
  show _ = (∑ x, _ * _) + _
  simp only [at3, at2, at1, wk, col, mul_comm 32]
  rfl

theorem vm_at (j : Fin 2048) (h : Fin 8) (d : Fin 32) : at3 (after proj V (Proc.devRef .tc main_v42)) j h d
    = dot (at2 (V (Proc.devRef .tc main_arg1)) j) (wv (at2 (V (Proc.devRef .tc main_arg4))) (col h d)) + at1 (V (Proc.devRef .tc main_arg5)) ⟨512 + (col h d).val, by omega⟩ := by
  after_reads_at
  show _ = (∑ x, _ * _) + _
  simp only [at3, at2, at1, wv, col, mul_comm 32]
  rfl
theorem ks_at (j : Fin 256) (h : Fin 8) (d : Fin 32) : at3 (after proj V (Proc.devRef .tc main_v48)) j h d
    = dot (at2 (V (Proc.devRef .tc main_arg0)) j) (wk (at2 (V (Proc.devRef .tc main_arg4))) (col h d)) + at1 (V (Proc.devRef .tc main_arg5)) ⟨256 + (col h d).val, by omega⟩ := by
  after_reads_at
  show _ = (∑ x, _ * _) + _
  simp only [at3, at2, at1, wk, col, mul_comm 32]
  rfl
theorem vs_at (j : Fin 256) (h : Fin 8) (d : Fin 32) : at3 (after proj V (Proc.devRef .tc main_v54)) j h d
    = dot (at2 (V (Proc.devRef .tc main_arg0)) j) (wv (at2 (V (Proc.devRef .tc main_arg4))) (col h d)) + at1 (V (Proc.devRef .tc main_arg5)) ⟨512 + (col h d).val, by omega⟩ := by
  after_reads_at
  show _ = (∑ x, _ * _) + _
  simp only [at3, at2, at1, wv, col, mul_comm 32]
  rfl

/-- The surprises. -/
theorem surp_at (i : Fin 256) : at1 (after hostOps0_6 (after hostOps0_5 (after hostOps0_4 (after hostOps0_3 (after hostOps0_2 (after hostOps0_1 (after hostOps0 V)))))) (Proc.devRef .tc main_v18)) i
    = surpR (at2 (V (Proc.devRef .tc main_arg1))) (at2 (V (Proc.devRef .tc main_arg0)) i) := by
  after_reads_at
  rfl

/-- Neutral biases and gains. -/
structure Neutral : Prop where
  inb : ∀ i : Fin 768, at1 (V (Proc.devRef .tc main_arg5)) i = 0
  outb : ∀ i : Fin 256, at1 (V (Proc.devRef .tc main_arg7)) i = 0
  b1 : ∀ i : Fin 1024, at1 (V (Proc.devRef .tc main_arg9)) i = 0
  b2 : ∀ i : Fin 256, at1 (V (Proc.devRef .tc main_arg11)) i = 0
  g1 : ∀ i : Fin 256, at1 (V (Proc.devRef .tc main_arg12)) i = 1
  s1 : ∀ i : Fin 256, at1 (V (Proc.devRef .tc main_arg13)) i = 0
  g2 : ∀ i : Fin 256, at1 (V (Proc.devRef .tc main_arg14)) i = 1
  s2 : ∀ i : Fin 256, at1 (V (Proc.devRef .tc main_arg15)) i = 0

/-- The attention in its parts. -/
theorem parts_after : after hostOps0_7 V = after norm (after attn (after wts (after lgts (after proj V)))) := by
  rw [parts, after_append, after_append, after_append, after_append]

/-- A row of logits' weights. -/
def wt (lg : Fin 2049 → EReal) (n : Fin 2049) : EReal :=
  Ideal.div (Ideal.exp (lg n - max cI (Finset.fold max cI lg Finset.univ))) (∑ j, Ideal.exp (lg j - max cI (Finset.fold max cI lg Finset.univ)))

/-- The logits of a row, from the projections. -/
theorem logits_at (N : Neutral V) (i : Fin 256) (h : Fin 8) (n : Fin 2049) : at3 (after lgts (after proj V) (Proc.devRef .tc main_v64)) i h n
    = logits (at2 (V (Proc.devRef .tc main_arg1))) (at2 (V (Proc.devRef .tc main_arg4))) (at2 (V (Proc.devRef .tc main_arg0)) i) h n := by
  rw [lgts_at]
  unfold logits logit
  split_ifs with hn
  · congr 1
    refine Finset.sum_congr rfl fun d _ => ?_
    rw [km_at, q_at, N.inb, N.inb, add_zero, add_zero, mul_comm]
  · congr 1
    refine Finset.sum_congr rfl fun d _ => ?_
    rw [ks_at, q_at, N.inb, N.inb, add_zero, add_zero]

/-- A row of the first half of the layer. -/
theorem h_at (N : Neutral V) (i l : Fin 256) : at2 (after hostOps0_7 V (Proc.devRef .tc main_v115)) i l
    = hR (at2 (V (Proc.devRef .tc main_arg1))) (at2 (V (Proc.devRef .tc main_arg4))) (at2 (V (Proc.devRef .tc main_arg6))) (at2 (V (Proc.devRef .tc main_arg0)) i) l := by
  rw [parts_after, norm_at]
  have e12 : after attn (after wts (after lgts (after proj V))) (Proc.devRef .tc main_arg12) = V (Proc.devRef .tc main_arg12) := by after_reads_simp
  have e13 : after attn (after wts (after lgts (after proj V))) (Proc.devRef .tc main_arg13) = V (Proc.devRef .tc main_arg13) := by after_reads_simp
  have e0 : after wts (after lgts (after proj V)) (Proc.devRef .tc main_arg0) = V (Proc.devRef .tc main_arg0) := by after_reads_simp
  have e6 : after wts (after lgts (after proj V)) (Proc.devRef .tc main_arg6) = V (Proc.devRef .tc main_arg6) := by after_reads_simp
  have e7 : after wts (after lgts (after proj V)) (Proc.devRef .tc main_arg7) = V (Proc.devRef .tc main_arg7) := by after_reads_simp
  have e42 : after wts (after lgts (after proj V)) (Proc.devRef .tc main_v42) = after proj V (Proc.devRef .tc main_v42) := by after_reads_simp
  have e54 : after wts (after lgts (after proj V)) (Proc.devRef .tc main_v54) = after proj V (Proc.devRef .tc main_v54) := by after_reads_simp
  rw [e12, e13, N.g1, N.s1, mul_one, add_zero]
  have el : ∀ h, (fun n => at3 (after lgts (after proj V) (Proc.devRef .tc main_v64)) i h n)
      = logits (at2 (V (Proc.devRef .tc main_arg1))) (at2 (V (Proc.devRef .tc main_arg4))) (at2 (V (Proc.devRef .tc main_arg0)) i) h :=
    fun h => funext fun n => logits_at V N i h n
  have key : ∀ k : Fin 256, (∑ j : Fin 2048, at3 (after proj V (Proc.devRef .tc main_v42)) j (hd k) (hc k)
          * at3 (after wts (after lgts (after proj V)) (Proc.devRef .tc main_v75)) i (hd k) j.castSucc
        + at3 (after wts (after lgts (after proj V)) (Proc.devRef .tc main_v75)) i (hd k) (Fin.last 2048)
          * at3 (after proj V (Proc.devRef .tc main_v54)) i (hd k) (hc k))
      = cxR (at2 (V (Proc.devRef .tc main_arg1))) (at2 (V (Proc.devRef .tc main_arg4))) (at2 (V (Proc.devRef .tc main_arg0)) i) (hd k) (hc k) := fun k => by
    have ew : ∀ n, at3 (after wts (after lgts (after proj V)) (Proc.devRef .tc main_v75)) i (hd k) n
        = wt (logits (at2 (V (Proc.devRef .tc main_arg1))) (at2 (V (Proc.devRef .tc main_arg4))) (at2 (V (Proc.devRef .tc main_arg0)) i) (hd k)) n :=
      fun n => (wts_at (after lgts (after proj V)) i (hd k) n).trans (congrArg (fun lg => wt lg n) (el (hd k)))
    refine congrArg₂ (· + ·) (Finset.sum_congr rfl fun j _ => congrArg₂ (· * ·) ?_ (ew j.castSucc)) (congrArg₂ (· * ·) (ew _) ?_)
    · rw [vm_at, N.inb, add_zero]
    · rw [vs_at, N.inb, add_zero]
  unfold hR
  refine congrFun (congrArg lnR (funext fun l => ?_)) l
  rw [attn_at, e0, e6, e7, e42, e54, N.outb, add_zero]
  exact congrArg (fun z => at2 (V (Proc.devRef .tc main_arg0)) i l + z)
    (Finset.sum_congr rfl fun k _ => congrArg (fun z => z * at2 (V (Proc.devRef .tc main_arg6)) l k) (key k))

/-- What the loop finds: the rows, their surprises, and the memory as it was given. -/
theorem entry_rows : after hostOps0_7 V (Proc.devRef .tc main_v116_0) = after hostOps0_7 V (Proc.devRef .tc main_v115) := by after_reads_simp; rfl
theorem entry_surp : after hostOps0_7 V (Proc.devRef .tc main_v116_1) = V (Proc.devRef .tc main_v18) := by after_reads_simp; rfl
theorem entry_mem : afterL preI V (Proc.devRef .tc main_v116_3) = V (Proc.devRef .tc main_arg1) := by
  simp only [afterL_cons, afterL_nil]
  after_reads_simp
  rfl
theorem entry_mom : afterL preI V (Proc.devRef .tc main_v116_4) = V (Proc.devRef .tc main_arg2) := by
  simp only [afterL_cons, afterL_nil]
  after_reads_simp
  rfl
theorem entry_score : afterL preI V (Proc.devRef .tc main_v116_5) = V (Proc.devRef .tc main_arg3) := by
  simp only [afterL_cons, afterL_nil]
  after_reads_simp
  rfl
theorem entry_ptr : afterL preI V (Proc.devRef .tc main_v116_6) = V (Proc.devRef .tc main_arg16) := by
  simp only [afterL_cons, afterL_nil]
  after_reads_simp
  rfl

end Cert.Proof.RefPre

end
-- ==== Proof.RefPost.lean ====
/- What the reference does after its loop: the feed-forward part and the second layer normalisation. -/
module

public import proofs.«01_k».proof.Proof.RefPre
public import proofs.«01_k».proof.Proof.RefFrame

@[expose] public section

set_option maxRecDepth 16384

noncomputable section

open Idealize.ShloMosaic Idealize.ShloMosaic.TcCoe Idealize.SL.Sem Idealize.ShloMosaic.Pointwise Idealize.ShloMosaic.StableHlo

namespace Cert.Proof.RefPost

open Cert.ReferenceIdeal Cert.ReferenceIdeal.Gen Cert.ReferenceIdeal.Value Cert.Proof.Model Cert.Proof.RefTrip Cert.Proof.RefPre Cert.Proof.Ref

variable (V : Valuation τ sig (Elt Ideal))

/-- The last line's parts: the second product with its residual, and the layer normalisation. -/
abbrev sums : List (HloOp τ sig (Elt Ideal)) := hostOps0_10.take 6
abbrev norm2 : List (HloOp τ sig (Elt Ideal)) := hostOps0_10.drop 6

theorem parts2 : (hostOps0_10 : List (HloOp τ sig (Elt Ideal))) = sums ++ norm2 := rfl

/-- A row of the second layer normalisation. -/
theorem norm2_at (i l : Fin 256) : at2 (after norm2 V (Proc.devRef .tc main_v152)) i l
    = lnR (fun l => at2 (V (Proc.devRef .tc main_v128)) i l) l * at1 (V (Proc.devRef .tc main_arg14)) l + at1 (V (Proc.devRef .tc main_arg15)) l := by
  after_reads_at
  rfl

/-- The feed-forward sums of a row. -/
theorem sums_at (i l : Fin 256) : at2 (after sums (after hostOps0_9 (after hostOps0_8 V)) (Proc.devRef .tc main_v128)) i l
    = at2 (V (Proc.devRef .tc main_v115)) i l + ((∑ k, max (dot (at2 (V (Proc.devRef .tc main_v115)) i) (at2 (V (Proc.devRef .tc main_arg8)) k)
        + at1 (V (Proc.devRef .tc main_arg9)) k) 0 * at2 (V (Proc.devRef .tc main_arg10)) l k) + at1 (V (Proc.devRef .tc main_arg11)) l) := by
  after_reads_at
  rfl

/-- A row of the first result. -/
theorem out_at (N : Neutral V) (i l : Fin 256) : at2 (afterL postI V (Proc.devRef .tc main_v152)) i l
    = lnR (ff (at2 (V (Proc.devRef .tc main_arg8))) (at2 (V (Proc.devRef .tc main_arg10))) (at2 (V (Proc.devRef .tc main_v115)) i)) l := by
  simp only [afterL_cons, afterL_nil]
  rw [parts2, after_append, norm2_at]
  have e14 : after sums (after hostOps0_9 (after hostOps0_8 V)) (Proc.devRef .tc main_arg14) = V (Proc.devRef .tc main_arg14) := by after_reads_simp
  have e15 : after sums (after hostOps0_9 (after hostOps0_8 V)) (Proc.devRef .tc main_arg15) = V (Proc.devRef .tc main_arg15) := by after_reads_simp
  rw [e14, e15, N.g2, N.s2, mul_one, add_zero]
  refine congrFun (congrArg lnR (funext fun l => ?_)) l
  rw [sums_at, N.b2, add_zero]
  refine congrArg (fun z => at2 (V (Proc.devRef .tc main_v115)) i l + z) (Finset.sum_congr rfl fun k _ => ?_)
  rw [N.b1, add_zero]

end Cert.Proof.RefPost

end
-- ==== Proof.RefRun.lean ====
/- The reference's run: what its fold leaves in the four results is the answer. -/
module

public import proofs.«01_k».proof.Proof.RefPost
public import proofs.«01_k».proof.Proof.Spec

@[expose] public section

set_option maxRecDepth 16384

noncomputable section

open Idealize.ShloMosaic Idealize.ShloMosaic.TcCoe Idealize.SL.Sem Idealize.ShloMosaic.Pointwise Idealize.ShloMosaic.StableHlo

namespace Cert.Proof.RefRun

open Cert.ReferenceIdeal Cert.ReferenceIdeal.Gen Cert.ReferenceIdeal.Value Cert.Proof.Model Cert.Proof.Compact Cert.Proof.RefTrip Cert.Proof.RefPre Cert.Proof.Ref
open Cert.Proof.Spec

/-- What the precondition says of the arguments. -/
structure Start (P : ℕ) (V : Valuation τ sig (Elt Ideal)) : Prop where
  neutral : Neutral V
  mem : ∀ (k : Fin 2048) (l : Fin 256), Fin' (at2 (V (Proc.devRef .tc main_arg1)) k l)
  proj : ∀ (k : Fin 768) (l : Fin 256), k.val < 512 → Fin' (at2 (V (Proc.devRef .tc main_arg4)) k l)
  mom : ∀ (k : Fin 2048) (l : Fin 256), at2 (V (Proc.devRef .tc main_arg2)) k l = 0
  ptr : (V (Proc.devRef .tc main_arg16) : S_.Idx → BitVec 32) ix0 = BitVec.ofNat 32 P
  base : Base P

/-- Nothing before the loop's last line has touched the arguments it reads. -/
abbrev early (V : Valuation τ sig (Elt Ideal)) : Valuation τ sig (Elt Ideal) :=
  after hostOps0_6 (after hostOps0_5 (after hostOps0_4 (after hostOps0_3 (after hostOps0_2 (after hostOps0_1 (after hostOps0 V))))))

theorem early_keep (V : Valuation τ sig (Elt Ideal)) {r : Ref sig .tc} (hr : r ∉ preW) : early V (Proc.devRef .tc r) = V (Proc.devRef .tc r) := by
  have h := pre_keep V hr
  simp only [afterL_cons, afterL_nil] at h
  rw [← h]
  simp only [preW, List.mem_append, not_or] at hr
  rw [after_of_writes_sub _ _ hostOps0_7_writes hr.2]

/-- The arguments' being neutral depends on the arguments alone. -/
theorem Neutral.of_args {V W : Valuation τ sig (Elt Ideal)} (N : Neutral V)
    (h5 : W (Proc.devRef .tc main_arg5) = V (Proc.devRef .tc main_arg5)) (h7 : W (Proc.devRef .tc main_arg7) = V (Proc.devRef .tc main_arg7))
    (h9 : W (Proc.devRef .tc main_arg9) = V (Proc.devRef .tc main_arg9)) (h11 : W (Proc.devRef .tc main_arg11) = V (Proc.devRef .tc main_arg11))
    (h12 : W (Proc.devRef .tc main_arg12) = V (Proc.devRef .tc main_arg12)) (h13 : W (Proc.devRef .tc main_arg13) = V (Proc.devRef .tc main_arg13))
    (h14 : W (Proc.devRef .tc main_arg14) = V (Proc.devRef .tc main_arg14)) (h15 : W (Proc.devRef .tc main_arg15) = V (Proc.devRef .tc main_arg15)) : Neutral W where
  inb := by rw [h5]; exact N.inb
  outb := by rw [h7]; exact N.outb
  b1 := by rw [h9]; exact N.b1
  b2 := by rw [h11]; exact N.b2
  g1 := by rw [h12]; exact N.g1
  s1 := by rw [h13]; exact N.s1
  g2 := by rw [h14]; exact N.g2
  s2 := by rw [h15]; exact N.s2

section
variable {P : ℕ} (V : Valuation τ sig (Elt Ideal)) (S : Start P V)

/-- The surprise of each row, and each attended row, from the arguments. -/
abbrev surp (i : Fin 256) : EReal := surpK (at2 (V (Proc.devRef .tc main_arg1))) (at2 (V (Proc.devRef .tc main_arg0)) i)
abbrev rowH (i l : Fin 256) : EReal :=
  hK (at2 (V (Proc.devRef .tc main_arg1))) (at2 (V (Proc.devRef .tc main_arg4))) (at2 (V (Proc.devRef .tc main_arg6))) (at2 (V (Proc.devRef .tc main_arg0)) i) l

include S in
/-- The rows at the loop's entry. -/
theorem pre_rows (i l : Fin 256) : at2 (afterL preI V (Proc.devRef .tc main_v115)) i l = rowH V i l := by
  have N : Neutral (early V) := Neutral.of_args S.neutral (early_keep V (by decide +kernel)) (early_keep V (by decide +kernel)) (early_keep V (by decide +kernel))
    (early_keep V (by decide +kernel)) (early_keep V (by decide +kernel)) (early_keep V (by decide +kernel)) (early_keep V (by decide +kernel)) (early_keep V (by decide +kernel))
  have h := h_at (early V) N i l
  rw [early_keep V (r := main_arg0) (by decide +kernel), early_keep V (r := main_arg1) (by decide +kernel), early_keep V (r := main_arg4) (by decide +kernel),
    early_keep V (r := main_arg6) (by decide +kernel), h_eq _ _ S.mem S.proj] at h
  simp only [afterL_cons, afterL_nil]
  exact h

include S in
/-- What the loop is entered with. -/
theorem entry : Inv P (surp V) (rowH V) (at2 (V (Proc.devRef .tc main_arg1))) (at1 (V (Proc.devRef .tc main_arg3))) 0 (afterL preI V) where
  rows i l := by
    refine Eq.trans ?_ (pre_rows V S i l)
    simp only [afterL_cons, afterL_nil]
    exact congrFun (entry_rows (early V)) (ix2 i l)
  surp i := by
    simp only [afterL_cons, afterL_nil]
    exact (congrFun (entry_surp (early V)) (ix1 i)).trans ((RefPre.surp_at V i).trans (surp_eq _ _))
  ptr := by
    rw [entry_ptr, S.ptr]
    rfl
  mems k l := by
    rw [entry_mem]
    exact Slot.zero
  moms k l := by
    rw [entry_mom, S.mom]
    exact Slot.zero
  scs k := by
    rw [entry_score]
    exact Slot.zero

end

variable (m : (ℓ : Loc nD τ sig) → Buf (Elt Ideal) ℓ) (c : Dev nD)

/-- What the operations after the loop are entered with. -/
abbrev exit : Valuation τ sig (Elt Ideal) := after condOps (atK m 256 c)

theorem exit_arg {r : Ref sig .tc} (h0 : r ∉ preW) (h1 : r ∉ bodyW) (h2 : r ∉ condOps_W) :
    exit m c (Proc.devRef .tc r) = launchContents m c (Proc.devRef .tc r) := by
  rw [exit, after_of_writes_sub condOps _ condOps_writes h2]
  exact (loop_keep m c h1 h2 256).trans (pre_keep _ h0)

/-- The reference's fold is the answer. -/
theorem answer {P : ℕ} (S : Start P (launchContents m c)) :
    Answer (at2 (launchContents m c (Proc.devRef .tc main_arg0))) (at2 (launchContents m c (Proc.devRef .tc main_arg1))) (at2 (launchContents m c (Proc.devRef .tc main_arg4)))
      (at2 (launchContents m c (Proc.devRef .tc main_arg6))) (at2 (launchContents m c (Proc.devRef .tc main_arg8))) (at2 (launchContents m c (Proc.devRef .tc main_arg10)))
      (at1 (launchContents m c (Proc.devRef .tc main_arg3)))
      (at2 (finalContents condOps preI bodyI postI 256 m c (Proc.devRef .tc main_v152))) (at2 (finalContents condOps preI bodyI postI 256 m c (Proc.devRef .tc main_v116_3)))
      (at2 (finalContents condOps preI bodyI postI 256 m c (Proc.devRef .tc main_v116_4))) (at1 (finalContents condOps preI bodyI postI 256 m c (Proc.devRef .tc main_v116_5))) := by
  have I := (inv m c S.base (entry _ S) 256 le_rfl).cond
  have N : Neutral (exit m c) := Neutral.of_args S.neutral
    (exit_arg m c (by decide +kernel) (by decide +kernel) (by decide +kernel)) (exit_arg m c (by decide +kernel) (by decide +kernel) (by decide +kernel))
    (exit_arg m c (by decide +kernel) (by decide +kernel) (by decide +kernel)) (exit_arg m c (by decide +kernel) (by decide +kernel) (by decide +kernel))
    (exit_arg m c (by decide +kernel) (by decide +kernel) (by decide +kernel)) (exit_arg m c (by decide +kernel) (by decide +kernel) (by decide +kernel))
    (exit_arg m c (by decide +kernel) (by decide +kernel) (by decide +kernel)) (exit_arg m c (by decide +kernel) (by decide +kernel) (by decide +kernel))
  have e115 : exit m c (Proc.devRef .tc main_v115) = afterL preI (launchContents m c) (Proc.devRef .tc main_v115) := by
    rw [exit, after_of_writes_sub condOps _ condOps_writes (by decide +kernel)]
    exact loop_keep m c (by decide +kernel) (by decide +kernel) 256
  have eh : ∀ i, at2 (exit m c (Proc.devRef .tc main_v115)) i = rowH (launchContents m c) i := fun i => funext fun l => by
    rw [e115]; exact pre_rows _ S i l
  refine ⟨fun i l => ?_, fun k l => ?_, fun k l => ?_, fun k => ?_⟩
  · have h := RefPost.out_at (exit m c) N i l
    rw [eh, exit_arg m c (r := main_arg8) (by decide +kernel) (by decide +kernel) (by decide +kernel),
      exit_arg m c (r := main_arg10) (by decide +kernel) (by decide +kernel) (by decide +kernel), ln_eq] at h
    exact h
  · rw [finalContents, post_keep _ (r := main_v116_3) (by decide +kernel)]
    exact I.mems k l
  · rw [finalContents, post_keep _ (r := main_v116_4) (by decide +kernel)]
    exact I.moms k l
  · rw [finalContents, post_keep _ (r := main_v116_5) (by decide +kernel)]
    exact I.scs k

end Cert.Proof.RefRun

end
-- ==== Proof.PreFacts.lean ====
/- What the precondition says, element by element. -/
module

public import proofs.«01_k».proof.Defs
public import proofs.«01_k».proof.Proof.Gen.Pre_initial_step
public import proofs.«01_k».proof.Proof.Model
public import Idealize.ShloMosaic.Lib.ReduceAll
public import Idealize.ShloMosaic.Lib.Pointwise

@[expose] public section

set_option maxRecDepth 16384

noncomputable section

open Idealize.ShloMosaic

namespace Cert.Proof.PreFacts

open Cert.Pre_initial_step Cert.Pre_initial_step.Gen Cert.Proof.Model

instance : Subsingleton S_.Idx := ⟨fun a b => funext fun i => i.elim0⟩

/-- The words of the three constants. -/
theorem inf_word : Ideal.ofBits .f32 0x7F800000#32 = ⊤ := by simp [Ideal.ofBits, Ideal.ieee]
theorem zero_word : Ideal.ofBits .f32 0x00000000#32 = 0 := by simp [Ideal.ofBits, Ideal.ieee]
theorem one_word : Ideal.ofBits .f32 0x3F800000#32 = 1 := by
  simp only [Ideal.ofBits, Ideal.ieee]
  simp
  rw [← EReal.coe_mul]
  norm_num

/-- An element below infinity in magnitude is a real number. -/
theorem fin_of_lt (x : EReal) (h : Ideal.cmp .olt (max x (-x)) (Ideal.ofBits .f32 0x7F800000#32) = 1#1) : Fin' x := by
  rw [inf_word] at h
  have h : max x (-x) < ⊤ := by
    by_contra hn
    simp [Ideal.cmp, hn] at h
  refine ⟨fun e => ?_, fun e => ?_⟩ <;> subst e <;> simp at h

/-- Elements that compare equal are equal. -/
theorem eq_of_oeq (x y : EReal) (h : Ideal.cmp .oeq x y = 1#1) : x = y := by
  by_contra hn
  simp [Ideal.cmp, hn] at h

section
variable {s : Shape} {axes : List (Fin s.rank)} (x : FVec Ideal s .f32) (w : BitVec 32) (hb : S_.BroadcastsInDim s (![] : Fin 0 → Fin s.rank))
  (hr : s.ReducesTo axes S_) (hu : 0 < S_.numel)

/-- An array that equals a constant in every place. -/
theorem all_oeq (h : Host.reduce IntOp.andi (cmpf .oeq x (broadcastInDim s ![] hb (constant S_ .f32 w))) (constantI S_ 1 1#1) hr hu ix0 = 1#1) (i : s.Idx) :
    x i = Ideal.ofBits .f32 w :=
  eq_of_oeq _ _ (Host.reduce_andi_all _ _ hr hu ix0 h i)

/-- An array whose every place is below infinity in magnitude. -/
theorem all_fin (h : Host.reduce IntOp.andi (cmpf .olt (Host.absf x) (broadcastInDim s ![] hb (constant S_ .f32 0x7F800000#32))) (constantI S_ 1 1#1) hr hu ix0 = 1#1)
    (i : s.Idx) : Fin' (x i) :=
  fin_of_lt _ (Host.reduce_andi_all _ _ hr hu ix0 h i)
end

/-- Both bits of a conjunction. -/
theorem both (x y : IVec S_ 1) : andi x y ix0 = 1#1 ↔ x ix0 = 1#1 ∧ y ix0 = 1#1 := IntOp.andi_eq_one

/-- The precondition, element by element. -/
structure Said (a1 a2 : S2048x256.Idx → EReal) (a4 : S768x256.Idx → EReal) (a5 : S768.Idx → EReal) (a7 : S256.Idx → EReal) (a9 : S1024.Idx → EReal)
    (a11 a12 a13 a14 a15 : S256.Idx → EReal) (a16 : S_.Idx → BitVec 32) : Prop where
  mem : ∀ i, Fin' (a1 i)
  proj : ∀ (k : Fin 768) (l : Fin 256), k.val < 512 → Fin' (a4 (ix2 k l))
  pos : 0 < (a16 ix0).toInt
  turn : IntOp.remsi .host (a16 ix0) 2048#32 = 0#32
  mom : ∀ i, a2 i = 0
  inb : ∀ i, a5 i = 0
  outb : ∀ i, a7 i = 0
  b1 : ∀ i, a9 i = 0
  b2 : ∀ i, a11 i = 0
  s1 : ∀ i, a13 i = 0
  s2 : ∀ i, a15 i = 0
  g1 : ∀ i, a12 i = 1
  g2 : ∀ i, a14 i = 1

/-- What a memory satisfying the precondition holds. -/
theorem said (a0 : FVec Ideal S256x256 .f32) (a1 a2 : FVec Ideal S2048x256 .f32) (a3 : FVec Ideal S2048 .f32) (a4 : FVec Ideal S768x256 .f32) (a5 : FVec Ideal S768 .f32)
    (a6 : FVec Ideal S256x256 .f32) (a7 : FVec Ideal S256 .f32) (a8 : FVec Ideal S1024x256 .f32) (a9 : FVec Ideal S1024 .f32) (a10 : FVec Ideal S256x1024 .f32)
    (a11 a12 a13 a14 a15 : FVec Ideal S256 .f32) (a16 : IVec S_ 32)
    (h : fn a0 a1 a2 a3 a4 a5 a6 a7 a8 a9 a10 a11 a12 a13 a14 a15 a16 = fun _ => 1#1) : Said a1 a2 a4 a5 a7 a9 a11 a12 a13 a14 a15 a16 := by
  have h := congrFun h ix0
  unfold fn fn_part1 fn_part2 fn_part3 at h
  simp only [both] at h
  obtain ⟨⟨⟨⟨⟨hm, hp⟩, ⟨hq, ht⟩⟩, hv⟩, ⟨⟨⟨⟨⟨h5, h7⟩, h9⟩, h11⟩, h13⟩, h15⟩⟩, ⟨h12, h14⟩⟩ := h
  exact {
    mem := all_fin _ _ _ _ hm
    proj := fun k l hk => by
      have e := all_fin _ _ _ _ hp (ix2 ⟨k.val, hk⟩ l)
      have q : (extractStridedSlice S512x256 ![0, 0] a4 Facts.slices_S768x256_S512x256_0_0 : FVec Ideal S512x256 .f32) (ix2 ⟨k.val, hk⟩ l) = a4 (ix2 k l) := by
        pointwise
      rwa [q] at e
    pos := by
      rw [show (cmpi .sgt a16 (constantI S_ 32 0#32) : IVec S_ 1) ix0 = BitVec.ofBool (decide (0 < (a16 ix0).toInt)) from rfl] at hq
      by_contra hn
      simp [hn] at hq
    turn := IntOp.cmpi_eq.1 ht
    mom := fun i => (all_oeq _ _ _ _ _ hv i).trans zero_word
    inb := fun i => (all_oeq _ _ _ _ _ h5 i).trans zero_word
    outb := fun i => (all_oeq _ _ _ _ _ h7 i).trans zero_word
    b1 := fun i => (all_oeq _ _ _ _ _ h9 i).trans zero_word
    b2 := fun i => (all_oeq _ _ _ _ _ h11 i).trans zero_word
    s1 := fun i => (all_oeq _ _ _ _ _ h13 i).trans zero_word
    s2 := fun i => (all_oeq _ _ _ _ _ h15 i).trans zero_word
    g1 := fun i => (all_oeq _ _ _ _ _ h12 i).trans one_word
    g2 := fun i => (all_oeq _ _ _ _ _ h14 i).trans one_word }

end Cert.Proof.PreFacts

end
-- ==== Proof.Value.lean ====
/- The value claim: from memories agreeing on the arguments, the kernel and the reference end with equal results. -/
module

public import proofs.«01_k».proof.Defs
public import proofs.«01_k».proof.Proof.KernelRun
public import proofs.«01_k».proof.Proof.RefRun
public import proofs.«01_k».proof.Proof.PreFacts

@[expose] public section

set_option maxRecDepth 16384

noncomputable section

open Idealize.ShloMosaic Idealize.ShloMosaic.TcCoe Idealize.SL.Sem Idealize.ShloMosaic.StableHlo

namespace Cert.Proof.Value

open Cert.Proof.RefTrip Cert.Proof.KernelAt Cert.Proof.Spec

/-- A positive pointer word whose remainder is 0 is at slot 0 of a full memory. -/
theorem base_of (a : BitVec 32) (h : 0 < a.toInt) (ht : IntOp.remsi .host a 2048#32 = 0#32) : Base a.toNat := by
  have h2 : 2 * a.toNat < 2 ^ 32 := by
    by_contra hn
    rw [BitVec.toInt_eq_toNat_cond, if_neg hn] at h
    have := a.isLt
    omega
  have hd : 2048 ∣ a.toNat := (IntOp.remsi_eq_zero_iff .host h2 2048 (by norm_num) (by norm_num)).mp ht
  have hp : 0 < a.toNat := by
    rw [BitVec.toInt_eq_toNat_of_lt h2] at h
    exact_mod_cast h
  exact ⟨Nat.le_of_dvd hp hd, Nat.mod_eq_zero_of_dvd hd, by omega⟩

/-- Arrays with the same entries are the same. -/
theorem ext2 {a b : ℕ} {x y : (⟨2, ![a, b]⟩ : Shape).Idx → EReal} (h : at2 x = at2 y) : x = y := by
  funext j
  obtain ⟨i, k, rfl⟩ : ∃ i k, j = ix2 i k := ⟨_, _, eq_ix2 j⟩
  exact congrFun (congrFun h i) k
theorem ext1 {a : ℕ} {x y : (⟨1, ![a]⟩ : Shape).Idx → EReal} (h : at1 x = at1 y) : x = y := by
  funext j
  obtain ⟨i, rfl⟩ : ∃ i, j = ix1 i := ⟨_, eq_ix1 j⟩
  exact congrFun h i

section
variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- What the reference leaves in a buffer. -/
abbrev fin (r : Ref Cert.ReferenceIdeal.sig .tc) :=
  finalContents Cert.ReferenceIdeal.Value.condOps Cert.ReferenceIdeal.Value.preI Cert.ReferenceIdeal.Value.bodyI Cert.ReferenceIdeal.Value.postI 256 m' c (Proc.devRef .tc r)

/-- The two programs' results are the same arrays. -/
theorem same (hp : Cert.Pre_KernelIdeal_initial_step m)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (e14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (e15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (e16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    fin m' c Cert.ReferenceIdeal.main_v152 = Cert.KernelIdeal.Gen.W4 m ρ c (Proc.devRef .tc Cert.KernelIdeal.main_v1_0)
    ∧ fin m' c Cert.ReferenceIdeal.main_v116_3 = Cert.KernelIdeal.Gen.W4 m ρ c (Proc.devRef .tc Cert.KernelIdeal.main_v2_0)
    ∧ fin m' c Cert.ReferenceIdeal.main_v116_4 = Cert.KernelIdeal.Gen.W4 m ρ c (Proc.devRef .tc Cert.KernelIdeal.main_v2_1)
    ∧ fin m' c Cert.ReferenceIdeal.main_v116_5 = Cert.KernelIdeal.Gen.W4 m ρ c (Proc.devRef .tc Cert.KernelIdeal.main_v3) := by
  have P := PreFacts.said _ _ _ _ _ _ _ _ _ _ _ _ _ _ _ _ _ (hp c)
  rw [← e1, ← e2, ← e4, ← e5, ← e7, ← e9, ← e11, ← e12, ← e13, ← e14, ← e15, ← e16] at P
  have S : RefRun.Start _ (launchContents m' c) := {
    neutral := {
      inb := fun i => P.inb (ix1 i)
      outb := fun i => P.outb (ix1 i)
      b1 := fun i => P.b1 (ix1 i)
      b2 := fun i => P.b2 (ix1 i)
      g1 := fun i => P.g1 (ix1 i)
      s1 := fun i => P.s1 (ix1 i)
      g2 := fun i => P.g2 (ix1 i)
      s2 := fun i => P.s2 (ix1 i) }
    mem := fun k l => P.mem (ix2 k l)
    proj := P.proj
    mom := fun k l => P.mom (ix2 k l)
    ptr := by simp
    base := base_of _ P.pos P.turn }
  have A := RefRun.answer m' c S
  have B := KernelRun.answer m ρ c
  have d0 : at2 (launchContents m' c (Proc.devRef .tc Cert.ReferenceIdeal.main_arg0)) = KernelRun.X m c := congrArg (tab 256 256) e0
  have d1 : at2 (launchContents m' c (Proc.devRef .tc Cert.ReferenceIdeal.main_arg1)) = KernelRun.M m c := congrArg (tab 2048 256) e1
  have d4 : at2 (launchContents m' c (Proc.devRef .tc Cert.ReferenceIdeal.main_arg4)) = KernelRun.Wi m c := congrArg (tab 768 256) e4
  have d6 : at2 (launchContents m' c (Proc.devRef .tc Cert.ReferenceIdeal.main_arg6)) = KernelRun.Wo m c := congrArg (tab 256 256) e6
  have d8 : at2 (launchContents m' c (Proc.devRef .tc Cert.ReferenceIdeal.main_arg8)) = KernelRun.F1 m c := congrArg (tab 1024 256) e8
  have d10 : at2 (launchContents m' c (Proc.devRef .tc Cert.ReferenceIdeal.main_arg10)) = KernelRun.F2 m c := congrArg (tab 256 1024) e10
  have d3 : at1 (launchContents m' c (Proc.devRef .tc Cert.ReferenceIdeal.main_arg3)) = KernelRun.Sc m c :=
    congrArg (fun (x : (⟨1, ![2048]⟩ : Shape).Idx → EReal) => fun k => x (ix1 k)) e3
  rw [d0, d1, d3, d4, d6, d8, d10] at A
  obtain ⟨q0, q1, q2, q3⟩ := A.unique B
  exact ⟨ext2 q0, ext2 q1, ext2 q2, ext1 q3⟩
end

/-- The kernel's four results, and its arguments unchanged; the reference's, the same. -/
theorem algebraic : Cert.algebraic_KernelIdeal_ReferenceIdeal_pre_initial_step := fun m ρ m' ρ' hp hm =>
  ⟨fun c => Cert.KernelIdeal.Gen.W4 m ρ c (Proc.devRef .tc Cert.KernelIdeal.main_v1_0), fun c => Cert.KernelIdeal.Gen.W4 m ρ c (Proc.devRef .tc Cert.KernelIdeal.main_v2_0),
    fun c => Cert.KernelIdeal.Gen.W4 m ρ c (Proc.devRef .tc Cert.KernelIdeal.main_v2_1), fun c => Cert.KernelIdeal.Gen.W4 m ρ c (Proc.devRef .tc Cert.KernelIdeal.main_v3),
    (θ_run (Cert.KernelIdeal.defs (F := Ideal)) _ _).mono (fun r h c =>
      ⟨h c _ (Cert.KernelIdeal.Gen.mem_uc Cert.KernelIdeal.main_v1_0 (by decide)),
        h c _ (Cert.KernelIdeal.Gen.mem_uc Cert.KernelIdeal.main_v2_0 (by decide)),
        h c _ (Cert.KernelIdeal.Gen.mem_uc Cert.KernelIdeal.main_v2_1 (by decide)),
        h c _ (Cert.KernelIdeal.Gen.mem_uc Cert.KernelIdeal.main_v3 (by decide)),
        (h c _ (Cert.KernelIdeal.Gen.mem_uc Cert.KernelIdeal.main_arg0 (by decide))).trans (Cert.KernelIdeal.Gen.W4_main_arg0 m ρ c),
        (h c _ (Cert.KernelIdeal.Gen.mem_uc Cert.KernelIdeal.main_arg1 (by decide))).trans (Cert.KernelIdeal.Gen.W4_main_arg1 m ρ c),
        (h c _ (Cert.KernelIdeal.Gen.mem_uc Cert.KernelIdeal.main_arg2 (by decide))).trans (Cert.KernelIdeal.Gen.W4_main_arg2 m ρ c),
        (h c _ (Cert.KernelIdeal.Gen.mem_uc Cert.KernelIdeal.main_arg3 (by decide))).trans (Cert.KernelIdeal.Gen.W4_main_arg3 m ρ c),
        (h c _ (Cert.KernelIdeal.Gen.mem_uc Cert.KernelIdeal.main_arg4 (by decide))).trans (Cert.KernelIdeal.Gen.W4_main_arg4 m ρ c),
        (h c _ (Cert.KernelIdeal.Gen.mem_uc Cert.KernelIdeal.main_arg5 (by decide))).trans (Cert.KernelIdeal.Gen.W4_main_arg5 m ρ c),
        (h c _ (Cert.KernelIdeal.Gen.mem_uc Cert.KernelIdeal.main_arg6 (by decide))).trans (Cert.KernelIdeal.Gen.W4_main_arg6 m ρ c),
        (h c _ (Cert.KernelIdeal.Gen.mem_uc Cert.KernelIdeal.main_arg7 (by decide))).trans (Cert.KernelIdeal.Gen.W4_main_arg7 m ρ c),
        (h c _ (Cert.KernelIdeal.Gen.mem_uc Cert.KernelIdeal.main_arg8 (by decide))).trans (Cert.KernelIdeal.Gen.W4_main_arg8 m ρ c),
        (h c _ (Cert.KernelIdeal.Gen.mem_uc Cert.KernelIdeal.main_arg9 (by decide))).trans (Cert.KernelIdeal.Gen.W4_main_arg9 m ρ c),
        (h c _ (Cert.KernelIdeal.Gen.mem_uc Cert.KernelIdeal.main_arg10 (by decide))).trans (Cert.KernelIdeal.Gen.W4_main_arg10 m ρ c),
        (h c _ (Cert.KernelIdeal.Gen.mem_uc Cert.KernelIdeal.main_arg11 (by decide))).trans (Cert.KernelIdeal.Gen.W4_main_arg11 m ρ c),
        (h c _ (Cert.KernelIdeal.Gen.mem_uc Cert.KernelIdeal.main_arg12 (by decide))).trans (Cert.KernelIdeal.Gen.W4_main_arg12 m ρ c),
        (h c _ (Cert.KernelIdeal.Gen.mem_uc Cert.KernelIdeal.main_arg13 (by decide))).trans (Cert.KernelIdeal.Gen.W4_main_arg13 m ρ c),
        (h c _ (Cert.KernelIdeal.Gen.mem_uc Cert.KernelIdeal.main_arg14 (by decide))).trans (Cert.KernelIdeal.Gen.W4_main_arg14 m ρ c),
        (h c _ (Cert.KernelIdeal.Gen.mem_uc Cert.KernelIdeal.main_arg15 (by decide))).trans (Cert.KernelIdeal.Gen.W4_main_arg15 m ρ c),
        (h c _ (Cert.KernelIdeal.Gen.mem_uc Cert.KernelIdeal.main_arg16 (by decide))).trans (Cert.KernelIdeal.Gen.W4_main_arg16 m ρ c)⟩) (KernelRun.ends m ρ),
    (θ_run (Cert.ReferenceIdeal.defs (F := Ideal)) _ _).mono (fun r h c => by
      obtain ⟨e0, e1, e2, e3, e4, e5, e6, e7, e8, e9, e10, e11, e12, e13, e14, e15, e16⟩ := hm c
      obtain ⟨q0, q1, q2, q3⟩ := same m ρ m' c hp e0 e1 e2 e3 e4 e5 e6 e7 e8 e9 e10 e11 e12 e13 e14 e15 e16
      exact ⟨(h c _ (by decide)).trans q0, (h c _ (by decide)).trans q1, (h c _ (by decide)).trans q2, (h c _ (by decide)).trans q3,
        Cert.Proof.Ref.args_kept m' c r.2.mem (h c)⟩) (Cert.ReferenceIdeal.Value.run_fold (F := Ideal) m' ρ')⟩

end Cert.Proof.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefFrame
public import proofs.«01_k».proof.Proof.Value
public import proofs.«01_k».proof.Proof.Gen.Pre_initial_step
public import Idealize.ShloMosaic.Adequacy
public import Idealize.ShloMosaic.Init

@[expose] public section

noncomputable section

namespace Cert.Proof

open Idealize.ShloMosaic Idealize.SL.Sem Cert.Kernel

/-- The frames of the three programs, with and without the precondition; the idealization; the value claim. -/
theorem claim : Cert.Claim := ⟨Cert.Kernel.Gen.facts, Cert.KernelIdeal.Gen.facts, Cert.ReferenceIdeal.Gen.facts, Cert.Pre_initial_step.Gen.facts,
  fun m ρ _ => Cert.Kernel.Gen.frame m ρ, fun m ρ _ => Cert.KernelIdeal.Gen.frame m ρ, fun m ρ _ => Cert.KernelIdeal.Gen.frame m ρ,
  Cert.Proof.Ref.frame, fun m ρ _ => Cert.Proof.Ref.frame m ρ trivial, trivial, Cert.Proof.Value.algebraic⟩

end Cert.Proof

end
